-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_table [hPre_in_table : Cert.Pre_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_table [hPre_in_table : Cert.Pre_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_table [hKernelIdeal : Cert.KernelIdeal.Facts] [hPre_in_table : Cert.Pre_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_table m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_table [hReferenceIdeal : Cert.ReferenceIdeal.Facts] [hPre_in_table : Cert.Pre_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_in_table [hKernelIdeal : Cert.KernelIdeal.Facts] [hReferenceIdeal : Cert.ReferenceIdeal.Facts] [hPre_in_table : Cert.Pre_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_table m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def holds_KernelIdeal_near_the_sinusoid_pre_in_table [hKernelIdeal : Cert.KernelIdeal.Facts] [hPre_in_table : Cert.Pre_in_table.Facts] [hPost_near_the_sinusoid : Cert.Post_near_the_sinusoid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_table m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ (Cert.Post_near_the_sinusoid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (r.2.mem ((c.tc : Thread Cert.KernelIdeal.nD Cert.KernelIdeal.τ).loc Cert.KernelIdeal.main_v6))) = (fun _ => 1#1))

def Claim : Prop :=
  ∃ (hKernel : Cert.Kernel.Facts) (hKernelIdeal : Cert.KernelIdeal.Facts) (hReferenceIdeal : Cert.ReferenceIdeal.Facts) (hPre_in_table : Cert.Pre_in_table.Facts) (hPost_near_the_sinusoid : Cert.Post_near_the_sinusoid.Facts),
    quiescent_Kernel (hKernel := hKernel)
    ∧ quiescent_KernelIdeal (hKernelIdeal := hKernelIdeal)
    ∧ quiescent_KernelIdeal_pre_in_table (hKernelIdeal := hKernelIdeal) (hPre_in_table := hPre_in_table)
    ∧ quiescent_ReferenceIdeal (hReferenceIdeal := hReferenceIdeal)
    ∧ quiescent_ReferenceIdeal_pre_in_table (hReferenceIdeal := hReferenceIdeal) (hPre_in_table := hPre_in_table)
    ∧ preserves_Kernel_KernelIdeal
    ∧ algebraic_KernelIdeal_ReferenceIdeal_pre_in_table (hKernelIdeal := hKernelIdeal) (hReferenceIdeal := hReferenceIdeal) (hPre_in_table := hPre_in_table)
    ∧ holds_KernelIdeal_near_the_sinusoid_pre_in_table (hKernelIdeal := hKernelIdeal) (hPre_in_table := hPre_in_table) (hPost_near_the_sinusoid := hPost_near_the_sinusoid)
-- ==== Post_near_the_sinusoid.lean ====
abbrev S16384 : Shape := ⟨1, ![16384]⟩
abbrev S1x128 : Shape := ⟨2, ![1, 128]⟩
abbrev S16384x128 : Shape := ⟨2, ![16384, 128]⟩
abbrev S_ : Shape := ⟨0, ![]⟩
abbrev S64 : Shape := ⟨1, ![64]⟩
abbrev S100000 : Shape := ⟨1, ![100000]⟩
abbrev S100000x1 : Shape := ⟨2, ![100000, 1]⟩
abbrev S1x64 : Shape := ⟨2, ![1, 64]⟩
abbrev S100000x64 : Shape := ⟨2, ![100000, 64]⟩
abbrev S100000x128 : Shape := ⟨2, ![100000, 128]⟩
abbrev S16384x1 : Shape := ⟨2, ![16384, 1]⟩
abbrev S1 : Shape := ⟨1, ![1]⟩
abbrev S1x1 : Shape := ⟨2, ![1, 1]⟩

class Facts : Prop where
  bcast_S_S64 : S_.BroadcastsInDim S64 (![] : Fin 0 → Fin S64.rank)
  bcast_S100000_S100000x1_0 : S100000.BroadcastsInDim S100000x1 (![0] : Fin 1 → Fin S100000x1.rank)
  bcast_S64_S1x64_1 : S64.BroadcastsInDim S1x64 (![1] : Fin 1 → Fin S1x64.rank)
  bcast_S100000x1_S100000x64_0_1 : S100000x1.BroadcastsInDim S100000x64 (![0, 1] : Fin 2 → Fin S100000x64.rank)
  bcast_S1x64_S100000x64_0_1 : S1x64.BroadcastsInDim S100000x64 (![0, 1] : Fin 2 → Fin S100000x64.rank)
  concatenates_S100000x64_S100000x64_S100000x128_d1 : Shape.Concatenates [S100000x64, S100000x64] S100000x128 1
  bcast_S1x128_S100000x128_0_1 : S1x128.BroadcastsInDim S100000x128 (![0, 1] : Fin 2 → Fin S100000x128.rank)
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x128_0 : S16384.BroadcastsInDim S16384x128 (![0] : Fin 1 → Fin S16384x128.rank)
  bcast_S_S16384x128 : S_.BroadcastsInDim S16384x128 (![] : Fin 0 → Fin S16384x128.rank)
  bcast_S_S1x128 : S_.BroadcastsInDim S1x128 (![] : Fin 0 → Fin S1x128.rank)
  bcast_S1x128_S16384x128_0_1 : S1x128.BroadcastsInDim S16384x128 (![0, 1] : Fin 2 → Fin S16384x128.rank)
  gather_S100000x128_S16384x1_S16384x128_1_0_n_n_0_1_1128_wf : GatherDims.WF S100000x128 S16384x1 S16384x128 [1] [0] [] [0] [] 1 ![1, 128]

variable [Facts]

def gather_S100000x128_S16384x1_S16384x128_1_0_n_n_0_1_1128 : GatherDims S100000x128 S16384x1 S16384x128 where
  offsetDims := [1]
  collapsedSliceDims := [0]
  operandBatchingDims := []
  startIndicesBatchingDims := []
  startIndexMap := [0]
  indexVectorDim := 1
  sliceSizes := ![1, 128]
  wf := gather_S100000x128_S16384x1_S16384x128_1_0_n_n_0_1_1128_wf
def fn_where {F : FTy → Type} [FloatOps F] (arg0 : IVec S16384 1) (arg1 : IVec S16384 32) (arg2 : IVec S16384 32) : IVec S16384 32 :=
  let v0 : IVec S16384 32 := select arg0 arg1 arg2
  v0

def fn_take {F : FTy → Type} [FloatOps F] (arg0 : FVec F S100000x128 .f32) (arg1 : IVec S16384 32) : FVec F S16384x128 .f32 :=
  let c : IVec S_ 32 := constantI S_ 32 0#32
  let v0 : IVec S16384 32 := broadcastInDim S16384 ![] bcast_S_S16384 c
  let v1 : IVec S16384 1 := cmpi .slt arg1 v0
  let c_0 : IVec S_ 32 := constantI S_ 32 100000#32
  let v2 : IVec S16384 32 := broadcastInDim S16384 ![] bcast_S_S16384 c_0
  let v3 : IVec S16384 32 := addi arg1 v2
  let v4 : IVec S16384 32 := fn_where (F := F) v1 v3 arg1
  let v5 : IVec S16384x1 32 := broadcastInDim S16384x1 ![0] bcast_S16384_S16384x1_0 v4
  let c_1 : IVec S1 32 := constantI S1 32 99999#32
  let c_2 : IVec S_ 32 := constantI S_ 32 0#32
  let v6 : IVec S16384x1 32 := broadcastInDim S16384x1 ![] bcast_S_S16384x1 c_2
  let v7 : IVec S16384x1 1 := cmpi .sge v5 v6
  let v8 : IVec S1x1 32 := broadcastInDim S1x1 ![1] bcast_S1_S1x1_1 c_1
  let v9 : IVec S16384x1 32 := broadcastInDim S16384x1 ![0, 1] bcast_S1x1_S16384x1_0_1 v8
  let v10 : IVec S16384x1 1 := cmpi .sle v5 v9
  let v11 : IVec S16384x1 1 := andi v7 v10
  let c_3 : IVec S_ 1 := constantI S_ 1 1#1
  let v12 : IVec S16384 1 := (fun x v => Host.reduce IntOp.andi x v reducesTo_S16384x1_S16384_d1 h_S_) v11 c_3
  let v13 : FVec F S16384x128 .f32 := (fun x i => Host.gather gather_S100000x128_S16384x1_S16384x128_1_0_n_n_0_1_1128 x i) arg0 v5
  let v14 : IVec S16384x128 1 := broadcastInDim S16384x128 ![0] bcast_S16384_S16384x128_0 v12
  let cst : FVec F S_ .f32 := constant S_ .f32 0x7FC00000#32
  let v15 : FVec F S16384x128 .f32 := broadcastInDim S16384x128 ![] bcast_S_S16384x128 cst
  let v16 : FVec F S16384x128 .f32 := select v14 v13 v15
  v16

def fn_part1 {F : FTy → Type} [FloatOps F] (main_arg1 : FVec F S1x128 .f32) (main_arg3 : FVec F S16384x128 .f32) (main_v21 : FVec F S16384x128 .f32) : IVec S16384x128 1 :=
  let main_v22 : FVec F S1x128 .f32 := Host.absf main_arg1
  let main_cst_1 : FVec F S_ .f32 := constant S_ .f32 0x453B8000#32
  let main_v23 : FVec F S1x128 .f32 := broadcastInDim S1x128 ![] bcast_S_S1x128 main_cst_1
  let main_v24 : FVec F S1x128 .f32 := Host.divf main_v22 main_v23
  let main_v25 : FVec F S16384x128 .f32 := broadcastInDim S16384x128 ![0, 1] bcast_S1x128_S16384x128_0_1 main_v24
  let main_v26 : FVec F S16384x128 .f32 := addf main_v21 main_v25
  let main_v27 : IVec S16384x128 1 := cmpf .ole main_arg3 main_v26
  let main_v28 : FVec F S16384x128 .f32 := broadcastInDim S16384x128 ![0, 1] bcast_S1x128_S16384x128_0_1 main_v24
  let main_v29 : FVec F S16384x128 .f32 := addf main_arg3 main_v28
  let main_v30 : IVec S16384x128 1 := cmpf .ole main_v21 main_v29
  let main_v31 : IVec S16384x128 1 := andi main_v27 main_v30
  main_v31

def fn {F : FTy → Type} [FloatOps F] (main_arg0 : IVec S16384 32) (main_arg1 : FVec F S1x128 .f32) (main_arg2 : FVec F S1x128 .f32) (main_arg3 : FVec F S16384x128 .f32) : IVec S16384x128 1 :=
  let main_cst : FVec F S_ .f32 := constant S_ .f32 0x47C35000#32
  let main_v0 : FVec F S64 .f32 := broadcastInDim S64 ![] bcast_S_S64 main_cst
  let main_v1 : FVec F S64 .f32 := Host.log main_v0
  let main_cst_0 : FVec F S_ .f32 := constant S_ .f32 0x427C0000#32
  let main_v2 : FVec F S64 .f32 := broadcastInDim S64 ![] bcast_S_S64 main_cst_0
  let main_v3 : FVec F S64 .f32 := Host.divf main_v1 main_v2
  let main_v4 : FVec F S64 .f32 := sitofp .f32 (iotaInDim S64 32 0)
  let main_v5 : FVec F S64 .f32 := Host.negf main_v3
  let main_v6 : FVec F S64 .f32 := mulf main_v4 main_v5
  let main_v7 : FVec F S64 .f32 := Host.exp main_v6
  let main_v8 : FVec F S100000 .f32 := sitofp .f32 (iotaInDim S100000 32 0)
  let main_v9 : FVec F S100000x1 .f32 := broadcastInDim S100000x1 ![0] bcast_S100000_S100000x1_0 main_v8
  let main_v10 : FVec F S1x64 .f32 := broadcastInDim S1x64 ![1] bcast_S64_S1x64_1 main_v7
  let main_v11 : FVec F S100000x64 .f32 := broadcastInDim S100000x64 ![0, 1] bcast_S100000x1_S100000x64_0_1 main_v9
  let main_v12 : FVec F S100000x64 .f32 := broadcastInDim S100000x64 ![0, 1] bcast_S1x64_S100000x64_0_1 main_v10
  let main_v13 : FVec F S100000x64 .f32 := mulf main_v11 main_v12
  let main_v14 : FVec F S100000x64 .f32 := Host.sin main_v13
  let main_v15 : FVec F S100000x64 .f32 := Host.cos main_v13
  let main_v16 : FVec F S100000x128 .f32 := (fun a b => concatenate S100000x128 1 [⟨S100000x64, a⟩, ⟨S100000x64, b⟩] concatenates_S100000x64_S100000x64_S100000x128_d1) main_v14 main_v15
  let main_v17 : FVec F S100000x128 .f32 := broadcastInDim S100000x128 ![0, 1] bcast_S1x128_S100000x128_0_1 main_arg1
  let main_v18 : FVec F S100000x128 .f32 := mulf main_v16 main_v17
  let main_v19 : FVec F S100000x128 .f32 := broadcastInDim S100000x128 ![0, 1] bcast_S1x128_S100000x128_0_1 main_arg2
  let main_v20 : FVec F S100000x128 .f32 := addf main_v18 main_v19
  let main_v21 : FVec F S16384x128 .f32 := fn_take (F := F) main_v20 main_arg0
  fn_part1 (F := F) main_arg1 main_arg3 main_v21
-- ==== Pre_in_table.lean ====
abbrev S16384 : Shape := ⟨1, ![16384]⟩
abbrev S1x128 : Shape := ⟨2, ![1, 128]⟩
abbrev S_ : Shape := ⟨0, ![]⟩

class Facts : Prop where
  bcast_S_S16384 : S_.BroadcastsInDim S16384 (![] : Fin 0 → Fin S16384.rank)
  bcast_S_S1x128 : S_.BroadcastsInDim S1x128 (![] : Fin 0 → Fin S1x128.rank)

variable [Facts]

def fn {F : FTy → Type} [FloatOps F] (main_arg0 : IVec S16384 32) (main_arg1 : FVec F S1x128 .f32) (main_arg2 : FVec F S1x128 .f32) : IVec S16384 1 × IVec S1x128 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 100000#32
  let main_v2 : IVec S16384 32 := broadcastInDim S16384 ![] bcast_S_S16384 main_c_0
  let main_v3 : IVec S16384 1 := cmpi .slt main_arg0 main_v2
  let main_v4 : IVec S16384 1 := andi main_v1 main_v3
  let main_v5 : FVec F S1x128 .f32 := Host.absf main_arg1
  let main_cst : FVec F S_ .f32 := constant S_ .f32 0x7F800000#32
  let main_v6 : FVec F S1x128 .f32 := broadcastInDim S1x128 ![] bcast_S_S1x128 main_cst
  let main_v7 : IVec S1x128 1 := cmpf .olt main_v5 main_v6
  (main_v4, main_v7)
-- ==== Kernel.lean ====
abbrev S16384 : Shape := ⟨1, ![16384]⟩
abbrev S1x128 : Shape := ⟨2, ![1, 128]⟩
abbrev S128 : Shape := ⟨1, ![128]⟩
abbrev S128x1 : Shape := ⟨2, ![128, 1]⟩
abbrev S_ : Shape := ⟨0, ![]⟩
abbrev S64 : Shape := ⟨1, ![64]⟩
abbrev S128x128 : Shape := ⟨2, ![128, 128]⟩
abbrev S16384x128 : Shape := ⟨2, ![16384, 128]⟩
abbrev S32x128 : Shape := ⟨2, ![32, 128]⟩
abbrev S4096x128 : Shape := ⟨2, ![4096, 128]⟩

abbrev nBuf : Space → Nat
  | .hbm => 13
  | .vmem => 8
  | .smem => 0
  | _ => 0

abbrev bufTy : (tb : Table) → Fin (tcTables nBuf tb) → BufTy
  | .hbm, ⟨0, _⟩ => ⟨S16384, .i32⟩
  | .hbm, ⟨1, _⟩ => ⟨S1x128, .f32⟩
  | .hbm, ⟨2, _⟩ => ⟨S1x128, .f32⟩
  | .hbm, ⟨3, _⟩ => ⟨S128, .i32⟩
  | .hbm, ⟨4, _⟩ => ⟨S128x1, .i32⟩
  | .hbm, ⟨5, _⟩ => ⟨S_, .i32⟩
  | .hbm, ⟨6, _⟩ => ⟨S64, .i32⟩
  | .hbm, ⟨7, _⟩ => ⟨S_, .i32⟩
  | .hbm, ⟨8, _⟩ => ⟨S64, .i32⟩
  | .hbm, ⟨9, _⟩ => ⟨S128, .i32⟩
  | .hbm, ⟨10, _⟩ => ⟨S128x1, .i32⟩
  | .hbm, ⟨11, _⟩ => ⟨S128x128, .i32⟩
  | .hbm, ⟨12, _⟩ => ⟨S16384x128, .f32⟩
  | .local _ .vmem, ⟨0, _⟩ => ⟨S32x128, .i32⟩
  | .local _ .vmem, ⟨1, _⟩ => ⟨S32x128, .i32⟩
  | .local _ .vmem, ⟨2, _⟩ => ⟨S128x1, .i32⟩
  | .local _ .vmem, ⟨3, _⟩ => ⟨S128x1, .i32⟩
  | .local _ .vmem, ⟨4, _⟩ => ⟨S1x128, .f32⟩
  | .local _ .vmem, ⟨5, _⟩ => ⟨S1x128, .f32⟩
  | .local _ .vmem, ⟨6, _⟩ => ⟨S4096x128, .f32⟩
  | .local _ .vmem, ⟨7, _⟩ => ⟨S4096x128, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_c_0 : Ref sig .tc := ⟨.hbm, 5, rfl⟩
abbrev main_v1 : Ref sig .tc := ⟨.hbm, 6, rfl⟩
abbrev main_c_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S16384 : Shape := ⟨1, ![16384]⟩
abbrev S1x128 : Shape := ⟨2, ![1, 128]⟩
abbrev S_ : Shape := ⟨0, ![]⟩
abbrev S64 : Shape := ⟨1, ![64]⟩
abbrev S100000 : Shape := ⟨1, ![100000]⟩
abbrev S100000x1 : Shape := ⟨2, ![100000, 1]⟩
abbrev S1x64 : Shape := ⟨2, ![1, 64]⟩
abbrev S100000x64 : Shape := ⟨2, ![100000, 64]⟩
abbrev S100000x128 : Shape := ⟨2, ![100000, 128]⟩
abbrev S16384x1 : Shape := ⟨2, ![16384, 1]⟩
abbrev S1 : Shape := ⟨1, ![1]⟩
abbrev S1x1 : Shape := ⟨2, ![1, 1]⟩
abbrev S16384x128 : Shape := ⟨2, ![16384, 128]⟩

abbrev nBuf : Space → Nat
  | .hbm => 125
  | .vmem => 0
  | .smem => 0
  | _ => 0

abbrev bufTy : (tb : Table) → Fin (tcTables nBuf tb) → BufTy
  | .hbm, ⟨0, _⟩ => ⟨S16384, .i32⟩
  | .hbm, ⟨1, _⟩ => ⟨S1x128, .f32⟩
  | .hbm, ⟨2, _⟩ => ⟨S1x128, .f32⟩
  | .hbm, ⟨3, _⟩ => ⟨S_, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S64, .f32⟩
  | .hbm, ⟨27, _⟩ => ⟨S_, .f32⟩
  | .hbm, ⟨28, _⟩ => ⟨S64, .f32⟩
  | .hbm, ⟨29, _⟩ => ⟨S64, .f32⟩
  | .hbm, ⟨30, _⟩ => ⟨S100000, .f32⟩
  | .hbm, ⟨31, _⟩ => ⟨S100000x1, .f32⟩
  | .hbm, ⟨32, _⟩ => ⟨S1x64, .f32⟩
  | .hbm, ⟨33, _⟩ => ⟨S100000x64, .f32⟩
  | .hbm, ⟨34, _⟩ => ⟨S100000x64, .f32⟩
  | .hbm, ⟨35, _⟩ => ⟨S100000x64, .f32⟩
  | .hbm, ⟨36, _⟩ => ⟨S_, .f32⟩
  | .hbm, ⟨37, _⟩ => ⟨S100000x64, .f32⟩
  | .hbm, ⟨38, _⟩ => ⟨S100000x64, .f32⟩
  | .hbm, ⟨39, _⟩ => ⟨S100000x64, .f32⟩
  | .hbm, ⟨40, _⟩ => ⟨S100000x64, .f32⟩
  | .hbm, ⟨41, _⟩ => ⟨S_, .f32⟩
  | .hbm, ⟨42, _⟩ => ⟨S100000x64, .f32⟩
  | .hbm, ⟨43, _⟩ => ⟨S100000x64, .f32⟩
  | .hbm, ⟨44, _⟩ => ⟨S100000x64, .f32⟩
  | .hbm, ⟨45, _⟩ => ⟨S100000x64, .f32⟩
  | .hbm, ⟨46, _⟩ => ⟨S_, .f32⟩
  | .hbm, ⟨47, _⟩ => ⟨S100000x64, .f32⟩
  | .hbm, ⟨48, _⟩ => ⟨S100000x64, .f32⟩
  | .hbm, ⟨49, _⟩ => ⟨S100000x64, .f32⟩
  | .hbm, ⟨50, _⟩ => ⟨S100000x64, .f32⟩
  | .hbm, ⟨51, _⟩ => ⟨S100000x64, .f32⟩
  | .hbm, ⟨52, _⟩ => ⟨S100000x64, .f32⟩
  | .hbm, ⟨53, _⟩ => ⟨S_, .f32⟩
  | .hbm, ⟨54, _⟩ => ⟨S100000x64, .f32⟩
  | .hbm, ⟨55, _⟩ => ⟨S100000x64, .f32⟩
  | .hbm, ⟨56, _⟩ => ⟨S100000x64, .f32⟩
  | .hbm, ⟨57, _⟩ => ⟨S100000x64, .f32⟩
  | .hbm, ⟨58, _⟩ => ⟨S100000x64, .f32⟩
  | .hbm, ⟨59, _⟩ => ⟨S100000x64, .f32⟩
  | .hbm, ⟨60, _⟩ => ⟨S100000x64, .f32⟩
  | .hbm, ⟨61, _⟩ => ⟨S_, .f32⟩
  | .hbm, ⟨62, _⟩ => ⟨S100000x64, .f32⟩
  | .hbm, ⟨63, _⟩ => ⟨S100000x64, .f32⟩
  | .hbm, ⟨64, _⟩ => ⟨S100000x64, .f32⟩
  | .hbm, ⟨65, _⟩ => ⟨S_, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S100000x64, .f32⟩
  | .hbm, ⟨70, _⟩ => ⟨S100000x64, .f32⟩
  | .hbm, ⟨71, _⟩ => ⟨S100000x64, .f32⟩
  | .hbm, ⟨72, _⟩ => ⟨S100000x64, .f32⟩
  | .hbm, ⟨73, _⟩ => ⟨S_, .f32⟩
  | .hbm, ⟨74, _⟩ => ⟨S100000x64, .f32⟩
  | .hbm, ⟨75, _⟩ => ⟨S100000x64, .f32⟩
  | .hbm, ⟨76, _⟩ => ⟨S100000x64, .f32⟩
  | .hbm, ⟨77, _⟩ => ⟨S100000x64, .f32⟩
  | .hbm, ⟨78, _⟩ => ⟨S_, .f32⟩
  | .hbm, ⟨79, _⟩ => ⟨S100000x64, .f32⟩
  | .hbm, ⟨80, _⟩ => ⟨S100000x64, .f32⟩
  | .hbm, ⟨81, _⟩ => ⟨S100000x64, .f32⟩
  | .hbm, ⟨82, _⟩ => ⟨S100000x64, .f32⟩
  | .hbm, ⟨83, _⟩ => ⟨S100000x64, .f32⟩
  | .hbm, ⟨84, _⟩ => ⟨S100000x64, .f32⟩
  | .hbm, ⟨85, _⟩ => ⟨S_, .f32⟩
  | .hbm, ⟨86, _⟩ => ⟨S100000x64, .f32⟩
  | .hbm, ⟨87, _⟩ => ⟨S100000x64, .f32⟩
  | .hbm, ⟨88, _⟩ => ⟨S100000x64, .f32⟩
  | .hbm, ⟨89, _⟩ => ⟨S100000x64, .f32⟩
  | .hbm, ⟨90, _⟩ => ⟨S100000x64, .f32⟩
  | .hbm, ⟨91, _⟩ => ⟨S100000x64, .f32⟩
  | .hbm, ⟨92, _⟩ => ⟨S100000x64, .f32⟩
  | .hbm, ⟨93, _⟩ => ⟨S_, .f32⟩
  | .hbm, ⟨94, _⟩ => ⟨S100000x64, .f32⟩
  | .hbm, ⟨95, _⟩ => ⟨S100000x64, .f32⟩
  | .hbm, ⟨96, _⟩ => ⟨S100000x64, .f32⟩
  | .hbm, ⟨97, _⟩ => ⟨S100000x128, .f32⟩
  | .hbm, ⟨98, _⟩ => ⟨S100000x128, .f32⟩
  | .hbm, ⟨99, _⟩ => ⟨S100000x128, .f32⟩
  | .hbm, ⟨100, _⟩ => ⟨S100000x128, .f32⟩
  | .hbm, ⟨101, _⟩ => ⟨S100000x128, .f32⟩
  | .hbm, ⟨102, _⟩ => ⟨S_, .i32⟩
  | .hbm, ⟨103, _⟩ => ⟨S16384, .i32⟩
  | .hbm, ⟨104, _⟩ => ⟨S16384, .i1⟩
  | .hbm, ⟨105, _⟩ => ⟨S_, .i32⟩
  | .hbm, ⟨106, _⟩ => ⟨S16384, .i32⟩
  | .hbm, ⟨107, _⟩ => ⟨S16384, .i32⟩
  | .hbm, ⟨108, _⟩ => ⟨S16384, .i32⟩
  | .hbm, ⟨109, _⟩ => ⟨S16384x1, .i32⟩
  | .hbm, ⟨110, _⟩ => ⟨S1, .i32⟩
  | .hbm, ⟨111, _⟩ => ⟨S_, .i32⟩
  | .hbm, ⟨112, _⟩ => ⟨S16384x1, .i32⟩
  | .hbm, ⟨113, _⟩ => ⟨S16384x1, .i1⟩
  | .hbm, ⟨114, _⟩ => ⟨S1x1, .i32⟩
  | .hbm, ⟨115, _⟩ => ⟨S16384x1, .i32⟩
  | .hbm, ⟨116, _⟩ => ⟨S16384x1, .i1⟩
  | .hbm, ⟨117, _⟩ => ⟨S16384x1, .i1⟩
  | .hbm, ⟨118, _⟩ => ⟨S_, .i1⟩
  | .hbm, ⟨119, _⟩ => ⟨S16384, .i1⟩
  | .hbm, ⟨120, _⟩ => ⟨S16384x128, .f32⟩
  | .hbm, ⟨121, _⟩ => ⟨S16384x128, .i1⟩
  | .hbm, ⟨122, _⟩ => ⟨S_, .f32⟩
  | .hbm, ⟨123, _⟩ => ⟨S16384x128, .f32⟩
  | .hbm, ⟨124, _⟩ => ⟨S16384x128, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_6 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_8 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_9 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_10 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_11 : Ref sig .tc := ⟨.hbm, 65, rfl⟩
abbrev main_v50 : Ref sig .tc := ⟨.hbm, 66, rfl⟩
abbrev main_v51 : Ref sig .tc := ⟨.hbm, 67, rfl⟩
abbrev main_cst_12 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_13 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_14 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_15 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_16 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_call0_c : Ref sig .tc := ⟨.hbm, 102, rfl⟩
abbrev main_call0_v0 : Ref sig .tc := ⟨.hbm, 103, rfl⟩
abbrev main_call0_v1 : Ref sig .tc := ⟨.hbm, 104, rfl⟩
abbrev main_call0_c_0 : Ref sig .tc := ⟨.hbm, 105, rfl⟩
abbrev main_call0_v2 : Ref sig .tc := ⟨.hbm, 106, rfl⟩
abbrev main_call0_v3 : Ref sig .tc := ⟨.hbm, 107, rfl⟩
abbrev main_call0_v4 : Ref sig .tc := ⟨.hbm, 108, rfl⟩
abbrev main_call0_v5 : Ref sig .tc := ⟨.hbm, 109, rfl⟩
abbrev main_call0_c_1 : Ref sig .tc := ⟨.hbm, 110, rfl⟩
abbrev main_call0_c_2 : Ref sig .tc := ⟨.hbm, 111, rfl⟩
abbrev main_call0_v6 : Ref sig .tc := ⟨.hbm, 112, rfl⟩
abbrev main_call0_v7 : Ref sig .tc := ⟨.hbm, 113, rfl⟩
abbrev main_call0_v8 : Ref sig .tc := ⟨.hbm, 114, rfl⟩
abbrev main_call0_v9 : Ref sig .tc := ⟨.hbm, 115, rfl⟩
abbrev main_call0_v10 : Ref sig .tc := ⟨.hbm, 116, rfl⟩
abbrev main_call0_v11 : Ref sig .tc := ⟨.hbm, 117, rfl⟩
abbrev main_call0_c_3 : Ref sig .tc := ⟨.hbm, 118, rfl⟩
abbrev main_call0_v12 : Ref sig .tc := ⟨.hbm, 119, rfl⟩
abbrev main_call0_v13 : Ref sig .tc := ⟨.hbm, 120, rfl⟩
abbrev main_call0_v14 : Ref sig .tc := ⟨.hbm, 121, rfl⟩
abbrev main_call0_cst : Ref sig .tc := ⟨.hbm, 122, rfl⟩
abbrev main_call0_v15 : Ref sig .tc := ⟨.hbm, 123, rfl⟩
abbrev main_v81 : Ref sig .tc := ⟨.hbm, 124, rfl⟩

abbrev nD : Nat := 1
abbrev τ : Topo := Topo.v7x

variable {F : FTy → Type} [FloatOps F]
-- ==== Proof.Frames.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_in_table
public import Idealize.ShloMosaic.Lib.Quiescent

/-! # The three programs run and leave their arguments alone -/

@[expose] public section

noncomputable section

namespace Cert.Posemb

open Idealize.ShloMosaic Idealize.SL.Sem

/-- The kernel, at its own number formats. -/
theorem frame_kernel : Cert.quiescent_Kernel (hKernel := Cert.Kernel.Gen.facts) :=
  fun m ρ _ => Cert.Kernel.Gen.frame m ρ

/-- The kernel at exact numbers. -/
theorem frame_ideal : Cert.quiescent_KernelIdeal (hKernelIdeal := Cert.KernelIdeal.Gen.facts) :=
  fun m ρ _ => Cert.KernelIdeal.Gen.frame m ρ

/-- The kernel at exact numbers, of the arguments the precondition admits. -/
theorem frame_ideal_pre : Cert.quiescent_KernelIdeal_pre_in_table (hKernelIdeal := Cert.KernelIdeal.Gen.facts)
    (hPre_in_table := Cert.Pre_in_table.Gen.facts) :=
  fun m ρ _ => Cert.KernelIdeal.Gen.frame m ρ

/-- The reference at exact numbers. -/
theorem frame_reference : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems (by decide) r.2⟩) (Cert.ReferenceIdeal.Value.run (F := Ideal) m ρ)

/-- The reference at exact numbers, of the arguments the precondition admits. -/
theorem frame_reference_pre : Cert.quiescent_ReferenceIdeal_pre_in_table (hReferenceIdeal := Cert.ReferenceIdeal.Gen.facts)
    (hPre_in_table := Cert.Pre_in_table.Gen.facts) :=
  fun m ρ _ => frame_reference m ρ trivial

end Cert.Posemb

end
-- ==== Proof.Take.lean ====
module

public import proofs.«01_k».proof.Proof.Gen.ReferenceIdeal
public import Idealize.ShloMosaic.Lib.Pointwise
public import Idealize.ShloMosaic.Lib.Routing.Ops
public import Idealize.ShloMosaic.Lib.Pointwise.IndexBridge

/-! # Taking rows of a table

Rows are taken by position. A negative position counts from the table's end; one that is still outside reads a value
that is not a number. -/

@[expose] public section

set_option maxRecDepth 16384

noncomputable section

namespace Cert.Posemb

open Cert.ReferenceIdeal Cert.ReferenceIdeal.Gen Idealize.ShloMosaic

/-- The positions as a column, a negative one counted from the table's end. -/
def startIdx (x : IVec S16384 32) : IVec S16384x1 32 :=
  broadcastInDim S16384x1 ![0] bcast_S16384_S16384x1_0 (select (cmpi .slt x (broadcastInDim S16384 ![] bcast_S_S16384 (constantI S_ 32 0#32)))
    (addi x (broadcastInDim S16384 ![] bcast_S_S16384 (constantI S_ 32 100000#32))) x)

/-- The rows of the table `T` at the positions `x`. -/
def takeRows (T : FVec Ideal S100000x128 .f32) (x : IVec S16384 32) : FVec Ideal S16384x128 .f32 :=
  select (broadcastInDim S16384x128 ![0] bcast_S16384_S16384x128_0 (Host.reduce IntOp.andi (andi (cmpi .sge (startIdx x)
    (broadcastInDim S16384x1 ![] bcast_S_S16384x1 (constantI S_ 32 0#32))) (cmpi .sle (startIdx x)
    (broadcastInDim S16384x1 ![0, 1] bcast_S1x1_S16384x1_0_1 (broadcastInDim S1x1 ![1] bcast_S1_S1x1_1 (constantI S1 32 99999#32)))))
    (constantI S_ 1 1#1) reducesTo_S16384x1_S16384_d1 h_S_))
    (Host.gather gather_S100000x128_S16384x1_S16384x128_1_0_n_n_0_1_1128 T (startIdx x))
    (broadcastInDim S16384x128 ![] bcast_S_S16384x128 (constant S_ .f32 0x7FC00000#32))

/-- A word below 100000 is not negative. -/
theorem slt_zero_of_lt (w : BitVec 32) (h : w.toNat < 100000) : IntOp.cmpi .slt w 0#32 = 0#1 := by
  have : ¬ w.toInt < 0 := by rw [BitVec.toInt_eq_toNat_of_lt (by omega)]; omega
  simp [IntOp.cmpi, BitVec.slt, this]

/-- A position inside the table starts at its own row. -/
theorem startIdx_apply (x : IVec S16384 32) (n : Fin 16384) (h : (x (ix1 n)).toNat < 100000) :
    startIdx x (ix2 n (0 : Fin 1)) = x (ix1 n) := by
  pointwise [startIdx]
  rw [slt_zero_of_lt _ h]
  rfl

/-- A position inside the table reads its row. -/
theorem takeRows_apply (T : FVec Ideal S100000x128 .f32) (x : IVec S16384 32) (n : Fin 16384) (q : Fin 128)
    (h : (x (ix1 n)).toNat < 100000) : takeRows T x (ix2 n q) = T (ix2 (⟨(x (ix1 n)).toNat, h⟩ : Fin 100000) q) := by
  have hi := startIdx_apply x n h
  pointwise [takeRows]
  have hge : IntOp.cmpi .sge (x (ix1 n)) 0#32 = 1#1 := by
    have : 0 ≤ (x (ix1 n)).toInt := by rw [BitVec.toInt_eq_toNat_of_lt (by omega)]; omega
    simp [IntOp.cmpi, BitVec.sle, this]
  have hle : IntOp.cmpi .sle (x (ix1 n)) 99999#32 = 1#1 := by
    have : (x (ix1 n)).toInt ≤ 99999 := by rw [BitVec.toInt_eq_toNat_of_lt (by omega)]; omega
    simp [IntOp.cmpi, BitVec.sle, this]
  rw [Finset.univ_unique, Finset.fold_singleton]
  show Scalar.select (IntOp.andi (IntOp.andi (IntOp.cmpi .sge (startIdx x (ix2 n 0)) 0#32)
    (IntOp.cmpi .sle (startIdx x (ix2 n 0)) 99999#32)) 1#1) _ _ = _
  rw [hi, hge, hle]
  refine Eq.trans (show Scalar.select (IntOp.andi (IntOp.andi 1#1 1#1) 1#1) _ _ = _ from rfl) ?_
  rw [ix2_eq_valueIdx, ix2_eq_valueIdx]
  refine Routing.gather_row _ rfl rfl rfl rfl rfl T (startIdx x) n q _ ?_ (by norm_num)
  rw [← ix2_eq_valueIdx, hi]
  simp

end Cert.Posemb

end
-- ==== Proof.RefTable.lean ====
module

public import proofs.«01_k».proof.Proof.Take
public import proofs.«01_k».proof.Proof.Gen.ReferenceIdeal.Run

/-! # What the reference computes

The reference's table, stage by stage, and the result as rows of it. -/

@[expose] public section

set_option maxRecDepth 16384

noncomputable section

namespace Cert.Posemb

open Cert.ReferenceIdeal Cert.ReferenceIdeal.Gen Idealize.ShloMosaic Idealize.ShloMosaic.TcCoe

/-- The 64 frequencies. -/
def freqVec : FVec Ideal S64 .f32 :=
  Host.exp (mulf (sitofp .f32 (iotaInDim S64 32 0)) (Host.negf (Host.divf (Host.log (broadcastInDim S64 ![] bcast_S_S64
    (constant S_ .f32 0x47C35000#32))) (broadcastInDim S64 ![] bcast_S_S64 (constant S_ .f32 0x427C0000#32)))))

/-- The 64 frequencies in turns, rounded to 32 binary places. -/
def turnVec : FVec Ideal S64 .f32 :=
  Host.divf (Host.floor (addf (mulf (Host.divf freqVec (mulf (broadcastInDim S64 ![] bcast_S_S64 (constant S_ .f32 0x40000000#32)) (Host.acos
    (broadcastInDim S64 ![] bcast_S_S64 (constant S_ .f32 0xBF800000#32))))) (broadcastInDim S64 ![] bcast_S_S64 (constant S_ .f32 0x4F800000#32)))
    (broadcastInDim S64 ![] bcast_S_S64 (constant S_ .f32 0x3F000000#32)))) (broadcastInDim S64 ![] bcast_S_S64 (constant S_ .f32 0x4F800000#32))

/-- The angle of every position and frequency, in turns. -/
def angleArr : FVec Ideal S100000x64 .f32 :=
  mulf (broadcastInDim S100000x64 ![0, 1] bcast_S100000x1_S100000x64_0_1 (broadcastInDim S100000x1 ![0] bcast_S100000_S100000x1_0 (sitofp .f32
    (iotaInDim S100000 32 0)))) (broadcastInDim S100000x64 ![0, 1] bcast_S1x64_S100000x64_0_1 (broadcastInDim S1x64 ![1] bcast_S64_S1x64_1 turnVec))

/-- The angle a quarter of a turn on. -/
def quarterArr : FVec Ideal S100000x64 .f32 :=
  addf angleArr (broadcastInDim S100000x64 ![] bcast_S_S100000x64 (constant S_ .f32 0x3E800000#32))

/-- Angles less the nearest whole number of turns. -/
def reduceArr (u : FVec Ideal S100000x64 .f32) : FVec Ideal S100000x64 .f32 :=
  subf u (Host.floor (addf u (broadcastInDim S100000x64 ![] bcast_S_S100000x64 (constant S_ .f32 0x3F000000#32))))

/-- The reference's polynomial at angles already reduced. -/
def polyArr (v : FVec Ideal S100000x64 .f32) : FVec Ideal S100000x64 .f32 :=
  addf (addf (addf (mulf (broadcastInDim S100000x64 ![] bcast_S_S100000x64 (constant S_ .f32 0x40C8E9EA#32)) v)
    (mulf (broadcastInDim S100000x64 ![] bcast_S_S100000x64 (constant S_ .f32 0xC2245D4E#32)) (mulf (mulf v v) v)))
    (mulf (broadcastInDim S100000x64 ![] bcast_S_S100000x64 (constant S_ .f32 0x429BD19D#32)) (mulf v (mulf (mulf v v) (mulf v v)))))
    (mulf (broadcastInDim S100000x64 ![] bcast_S_S100000x64 (constant S_ .f32 0xC2602765#32)) (mulf (mulf v (mulf v v)) (mulf (mulf v v) (mulf v v))))

/-- The table from its two halves, weighted and shifted. -/
def tableArr (s t : FVec Ideal S100000x64 .f32) (w b : FVec Ideal S1x128 .f32) : FVec Ideal S100000x128 .f32 :=
  addf (mulf (concatenate S100000x128 1 [⟨S100000x64, s⟩, ⟨S100000x64, t⟩] concatenates_S100000x64_S100000x64_S100000x128_d1)
    (broadcastInDim S100000x128 ![0, 1] bcast_S1x128_S100000x128_0_1 w)) (broadcastInDim S100000x128 ![0, 1] bcast_S1x128_S100000x128_0_1 b)

/-- The reference's result is the rows of its table at the positions. -/
theorem reference_eq (m : (ℓ : Loc nD τ sig) → Buf (Elt Ideal) ℓ) (c : Dev nD) :
    Value.res_main_v81 m c = takeRows (tableArr (polyArr (reduceArr angleArr)) (polyArr (reduceArr quarterArr))
      (m ((c : Thread nD τ).loc main_arg1)) (m ((c : Thread nD τ).loc main_arg2))) (m ((c : Thread nD τ).loc main_arg0)) := rfl

end Cert.Posemb

end
-- ==== Proof.Words.lean ====
module

public import Idealize.ShloMosaic.PureOps.Ideal

/-! # The floating-point words of the two programs, as real numbers -/

@[expose] public section

noncomputable section

namespace Cert.Posemb

open Idealize.ShloMosaic

/-- The coefficient of the first power. -/
theorem word_c0 : Ideal.ofBits .f32 0x40C8E9EA#32 = ((6583541 / 1048576 : ℝ) : EReal) := by
  simp [Ideal.ofBits, Ideal.ieee, -EReal.coe_mul, -EReal.coe_pow]; norm_num

/-- The coefficient of the third power. -/
theorem word_c1 : Ideal.ofBits .f32 0xC2245D4E#32 = ((-5385895 / 131072 : ℝ) : EReal) := by
  simp [Ideal.ofBits, Ideal.ieee, -EReal.coe_mul, -EReal.coe_pow]; norm_num

/-- The coefficient of the fifth power. -/
theorem word_c2 : Ideal.ofBits .f32 0x429BD19D#32 = ((10211741 / 131072 : ℝ) : EReal) := by
  simp [Ideal.ofBits, Ideal.ieee, -EReal.coe_mul, -EReal.coe_pow]; norm_num

/-- The coefficient of the seventh power. -/
theorem word_c3 : Ideal.ofBits .f32 0xC2602765#32 = ((-14690149 / 262144 : ℝ) : EReal) := by
  simp [Ideal.ofBits, Ideal.ieee, -EReal.coe_mul, -EReal.coe_pow]; norm_num

/-- `2 ^ -32`. -/
theorem word_inv32 : Ideal.ofBits .f32 0x2F800000#32 = ((1 / 4294967296 : ℝ) : EReal) := by
  simp [Ideal.ofBits, Ideal.ieee, -EReal.coe_mul, -EReal.coe_pow]; norm_num

/-- `2 ^ 32`. -/
theorem word_2p32 : Ideal.ofBits .f32 0x4F800000#32 = ((4294967296 : ℝ) : EReal) := by
  simp [Ideal.ofBits, Ideal.ieee, -EReal.coe_mul, -EReal.coe_pow]; norm_num

/-- The number of positions. -/
theorem word_100000 : Ideal.ofBits .f32 0x47C35000#32 = ((100000 : ℝ) : EReal) := by
  simp [Ideal.ofBits, Ideal.ieee, -EReal.coe_mul, -EReal.coe_pow]; norm_num

/-- One less than the number of frequencies. -/
theorem word_63 : Ideal.ofBits .f32 0x427C0000#32 = ((63 : ℝ) : EReal) := by
  simp [Ideal.ofBits, Ideal.ieee, -EReal.coe_mul, -EReal.coe_pow]; norm_num

/-- Two. -/
theorem word_2 : Ideal.ofBits .f32 0x40000000#32 = ((2 : ℝ) : EReal) := by
  simp [Ideal.ofBits, Ideal.ieee, -EReal.coe_mul, -EReal.coe_pow]; norm_num

/-- Minus one. -/
theorem word_neg1 : Ideal.ofBits .f32 0xBF800000#32 = ((-1 : ℝ) : EReal) := by
  simp [Ideal.ofBits, Ideal.ieee, -EReal.coe_mul, -EReal.coe_pow]; norm_num

/-- A half. -/
theorem word_half : Ideal.ofBits .f32 0x3F000000#32 = ((1 / 2 : ℝ) : EReal) := by
  simp [Ideal.ofBits, Ideal.ieee, -EReal.coe_mul, -EReal.coe_pow]; norm_num

/-- A quarter. -/
theorem word_quarter : Ideal.ofBits .f32 0x3E800000#32 = ((1 / 4 : ℝ) : EReal) := by
  simp [Ideal.ofBits, Ideal.ieee, -EReal.coe_mul, -EReal.coe_pow]; norm_num

/-- Three thousand. -/
theorem word_3000 : Ideal.ofBits .f32 0x453B8000#32 = ((3000 : ℝ) : EReal) := by
  simp [Ideal.ofBits, Ideal.ieee, -EReal.coe_mul, -EReal.coe_pow]; norm_num

/-- The largest word of all, infinity. -/
theorem word_inf : Ideal.ofBits .f32 0x7F800000#32 = ⊤ := by
  simp [Ideal.ofBits, Ideal.ieee]

end Cert.Posemb

end
-- ==== Proof.Cell.lean ====
/-
  One element of the result, as the kernel computes it: the position times the column's frequency plus the column's
  phase, a 32-bit word read as a signed number of 2⁻³² turns, put into a polynomial whose coefficients already hold
  the column's weight, and the column's bias added.
-/
module

public import Idealize.ShloMosaic.PureOps.Ideal

@[expose] public section

noncomputable section

namespace Cert.Posemb

open Idealize.ShloMosaic

/-- The angle in turns that the kernel reads off the word `x * k + ph`, taken as a signed number. -/
def turnsOf (x k ph : BitVec 32) : EReal :=
  (((x * k + ph).toInt : ℝ) : EReal) * Ideal.ofBits .f32 0x2F800000#32

/-- The kernel's polynomial at the angle `v`, the weight `w` multiplied into each coefficient. -/
def weighted (w v : EReal) : EReal :=
  (((Ideal.ofBits .f32 0xC2602765#32 * w * (v * v) + Ideal.ofBits .f32 0x429BD19D#32 * w) * (v * v)
      + Ideal.ofBits .f32 0xC2245D4E#32 * w) * (v * v) + Ideal.ofBits .f32 0x40C8E9EA#32 * w) * v

/-- One element of the kernel's result: position `x`, frequency word `k`, phase word `ph`, weight `w`, bias `b`. -/
def cell (x k ph : BitVec 32) (w b : EReal) : EReal :=
  weighted w (turnsOf x k ph) + b

end Cert.Posemb

end
-- ==== Proof.Wrap.lean ====
module

public import proofs.«01_k».proof.Proof.Cell

/-! # A wrapped word is an angle reduced to half a turn

A word counts `2 ^ -32` turns, so dropping whole turns is dropping the carry. -/

@[expose] public section

noncomputable section

namespace Cert.Posemb

/-- An angle in turns, less the nearest whole number of turns. -/
def reduced (u : ℝ) : ℝ := u - ⌊u + 1 / 2⌋

/-- Dropping the carry of a signed 32-bit number drops whole turns of the angle it counts. -/
theorem bmod_reduced (z : ℤ) : ((z.bmod (2 ^ 32) : ℤ) : ℝ) / 4294967296 = reduced (z / 4294967296) := by
  have h : ⌊(z : ℝ) / 4294967296 + 1 / 2⌋ = (z + 2147483648) / 4294967296 := by
    have e : (z : ℝ) / 4294967296 + 1 / 2 = ((z + 2147483648 : ℤ) : ℝ) / 4294967296 := by push_cast; ring
    rw [e, Int.floor_eq_iff, le_div_iff₀ (by norm_num), div_lt_iff₀ (by norm_num)]
    constructor
    · exact_mod_cast (by omega : (z + 2147483648) / 4294967296 * 4294967296 ≤ z + 2147483648)
    · exact_mod_cast (by omega : z + 2147483648 < ((z + 2147483648) / 4294967296 + 1) * 4294967296)
  have hz : z.bmod (2 ^ 32) = z - 4294967296 * ((z + 2147483648) / 4294967296) := by
    rw [Int.bmod_def]
    norm_num
    split_ifs <;> omega
  rw [reduced, h, hz]
  push_cast
  ring

/-- The word `x * k + ph`, counted in turns, is the angle `(x * k + ph) / 2 ^ 32` less whole turns. -/
theorem word_reduced (x k ph : BitVec 32) : ((x * k + ph).toInt : ℝ) / 4294967296
    = reduced ((x.toInt : ℝ) * (k.toInt / 4294967296) + ph.toInt / 4294967296) := by
  have h : (x * k + ph).toInt = (x.toInt * k.toInt + ph.toInt).bmod (2 ^ 32) := by
    rw [BitVec.toInt_add, BitVec.toInt_mul, Int.bmod_add_bmod]
  rw [h, bmod_reduced]
  push_cast
  congr 1
  ring

end Cert.Posemb

end
-- ==== Proof.Block.lean ====
/-
  What one grid point of the kernel computes: each of its 32 stores is the same function of the row of positions it
  loads, and the whole block [4096, 128] is one function of the input blocks, read at an index.
-/
module

public import proofs.«01_k».proof.Proof.Gen.KernelIdeal.Value
public import proofs.«01_k».proof.Proof.Cell
public import Idealize.ShloMosaic.Lib.Pipeline.ValueKit
public import Idealize.ShloMosaic.Lib.Pointwise

@[expose] public section

set_option maxRecDepth 16384

noncomputable section

namespace Cert.Posemb

open Cert.KernelIdeal Cert.KernelIdeal.Gen Idealize.ShloMosaic

/-- The rows stored for one row of positions: element (r, c) is `cell` of position r and column c. -/
theorem rows_apply (pos : Vec Ideal S1x128 .i32) (x1 x2 : Vec Ideal S128x1 .i32) (x3 x4 : Vec Ideal S1x128 .f32)
    (r c : Fin 128) : k0_pay10 x1 x2 x3 x4 pos (ix2 r c)
      = cell (pos (ix2 0 r)) (x1 (ix2 c 0)) (x2 (ix2 c 0)) (x3 (ix2 0 c)) (x4 (ix2 0 c)) := by
  pointwise [k0_pay10, k0_pay9, k0_pay8, k0_pay7, k0_pay6, k0_pay5, k0_pay4, k0_pay3, k0_pay2]
  rfl

/-- A store of a block, where it holds the index of row `128 * q + r`: the row of positions it loads is row `q`. -/
theorem piece_apply (x0 : Vec Ideal S32x128 .i32) (x1 x2 : Vec Ideal S128x1 .i32) (x3 x4 : Vec Ideal S1x128 .f32)
    (n : Nat) (inb : ∀ a, (![n, 0] : Fin 2 → Nat) a + S1x128.size a ≤ S32x128.size a) (x : S128x128.Idx) (q : Fin 32) (r c : Fin 128)
    (hq : (q : Nat) = n) (hr : (x 0 : Nat) = r) (hc : (x 1 : Nat) = c) :
    k0_pay10 (View.ld x1 r0_0) (View.ld x2 r0_0) (View.ld x3 r0_1) (View.ld x4 r0_1)
        (View.ld x0 (Rect.unit (s := S32x128) ![n, 0] S1x128.size inb)) x
      = cell (x0 (ix2 q r)) (x1 (ix2 c 0)) (x2 (ix2 c 0)) (x3 (ix2 0 c)) (x4 (ix2 0 c)) := by
  have hx : x = ix2 r c := by
    funext a
    apply Fin.ext
    match a with
    | ⟨0, _⟩ => exact hr
    | ⟨1, _⟩ => exact hc
  subst hq
  have hpos : View.ld x0 (Rect.unit (s := S32x128) ![(q : Nat), 0] S1x128.size inb) (ix2 0 r) = x0 (ix2 q r) := by
    show x0 _ = x0 _
    congr 1
    funext a
    apply Fin.ext
    match a with
    | ⟨0, _⟩ => show (q : Nat) + 1 * 0 = q; omega
    | ⟨1, _⟩ => show 0 + 1 * (r : Nat) = r; omega
  rw [hx, rows_apply, hpos]
  congr 1 <;> pointwise [r0_0, r0_1]

/-- The block a grid point leaves, at row `128 * q + r`, column `c`. -/
theorem block_apply (x0 : Vec Ideal S32x128 .i32) (x1 x2 : Vec Ideal S128x1 .i32) (x3 x4 : Vec Ideal S1x128 .f32)
    (y : S4096x128.Idx) (q : Fin 32) (r c : Fin 128) (hq : (y 0 : Nat) = 128 * q + r) (hc : (y 1 : Nat) = c) :
    out0_5 x0 x1 x2 x3 x4 y = cell (x0 (ix2 q r)) (x1 (ix2 c 0)) (x2 (ix2 c 0)) (x3 (ix2 0 c)) (x4 (ix2 0 c)) := by
  canon_tiles x h
  all_goals exact piece_apply x0 x1 x2 x3 x4 _ _ x q r c (by omega) (by omega) (by omega)

end Cert.Posemb

end
-- ==== Proof.Array.lean ====
module

public import proofs.«01_k».proof.Proof.Block
public import Idealize.ShloMosaic.Lib.Pipeline.Covers

/-! # What the result array holds

Each block of the run reads 32 rows of positions and all of the per-column operands; the blocks fill the result array. -/

@[expose] public section

set_option maxRecDepth 16384

noncomputable section

namespace Cert.Posemb

open Cert.KernelIdeal Cert.KernelIdeal.Gen Idealize.ShloMosaic Idealize.ShloMosaic.TcCoe

/-- Where each operand's block lies: the positions and the result move with the grid point, the others stay. -/
theorem idx_facts : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, win0_0.index t = ![t.val, 0] ∧ win0_1.index t = ![0, 0] ∧ win0_2.index t = ![0, 0]
    ∧ win0_3.index t = ![0, 0] ∧ win0_4.index t = ![0, 0] ∧ win0_5.index t = ![t.val, 0])

/-- The word of column `c`'s frequency. -/
def freqWord (c : Fin 128) : BitVec 32 := lit0 c

/-- The word of column `c`'s phase. -/
def phaseWord (c : Fin 128) : BitVec 32 := if c.val < 64 then 0#32 else 1073741824#32

variable (m : (ℓ : Loc nD τ sig) → Buf (Elt Ideal) ℓ)

/-- The kernel reads positions as 128 rows of 128: element (q, r) is position `128 * q + r`. -/
theorem entry_positions (c : Dev nD) (i : S128x128.Idx) (n : Fin 16384) (h : (n : Nat) = 128 * (i 0).val + (i 1).val) :
    V m c main_v5 i = m ((c : Thread nD τ).loc main_arg0) (ix1 n : S16384.Idx) := by
  idx_vars i
  entry_read
  pointwise
  show m ((c : Thread nD τ).loc main_arg0) _ = _
  congr 2
  apply Fin.ext
  rw [h]
  show _ * 128 + _ = 128 * _ + _
  exact congrArg (· + _) (Nat.mul_comm _ _)

/-- The column of frequency words as the kernel reads it. -/
theorem entry_freq (c : Dev nD) (i : S128x1.Idx) (q : Fin 128) (h : (q : Nat) = (i 0).val) :
    V m c main_v0 i = freqWord q := by
  idx_vars i
  entry_read
  pointwise
  refine congrArg lit0 (Fin.ext ?_)
  rw [Shape.rowMajor_val_one]
  exact h.symm

/-- The column of phase words as the kernel reads it. -/
theorem entry_phase (c : Dev nD) (i : S128x1.Idx) (q : Fin 128) (h : (q : Nat) = (i 0).val) :
    V m c main_v4 i = phaseWord q := by
  idx_vars i
  entry_read
  pointwise
  unfold phaseWord
  rw [h]
  rfl

/-- The positions block of grid point `t` holds positions `4096 * t` onwards. -/
theorem blk_positions (c : Dev nD) (t : Fin cfg0.N) (q : Fin 32) (r : Fin 128) (n : Fin 16384)
    (h : (n : Nat) = 4096 * t.val + 128 * q + r) :
    iblk m c 0 t (ix2 q r) = m ((c : Thread nD τ).loc main_arg0) (ix1 n : S16384.Idx) := by
  obtain ⟨e0, e1, e2, e3, e4, e5⟩ := idx_facts t
  show V m c main_v5 ((win0_0.blk t).view.emb (ix2 q r)) = _
  refine entry_positions m c _ n ?_
  blk_simp [e0]
  omega

/-- Every block of the frequency words is the whole operand. -/
theorem blk_freq (c : Dev nD) (t : Fin cfg0.N) (q : Fin 128) :
    iblk m c 1 t (ix2 q 0) = freqWord q := by
  obtain ⟨e0, e1, e2, e3, e4, e5⟩ := idx_facts t
  show V m c main_v0 ((win0_1.blk t).view.emb (ix2 q 0)) = _
  refine entry_freq m c _ q ?_
  blk_simp [e1]

/-- Every block of the phase words is the whole operand. -/
theorem blk_phase (c : Dev nD) (t : Fin cfg0.N) (q : Fin 128) :
    iblk m c 2 t (ix2 q 0) = phaseWord q := by
  obtain ⟨e0, e1, e2, e3, e4, e5⟩ := idx_facts t
  show V m c main_v4 ((win0_2.blk t).view.emb (ix2 q 0)) = _
  refine entry_phase m c _ q ?_
  blk_simp [e2]

/-- Every block of the weights is the whole operand. -/
theorem blk_weights (c : Dev nD) (t : Fin cfg0.N) (q : Fin 128) :
    iblk m c 3 t (ix2 0 q) = m ((c : Thread nD τ).loc main_arg1) (ix2 0 q : S1x128.Idx) := by
  obtain ⟨e0, e1, e2, e3, e4, e5⟩ := idx_facts t
  blk_ext [iblk, V, e3]

/-- Every block of the bias is the whole operand. -/
theorem blk_bias (c : Dev nD) (t : Fin cfg0.N) (q : Fin 128) :
    iblk m c 4 t (ix2 0 q) = m ((c : Thread nD τ).loc main_arg2) (ix2 0 q : S1x128.Idx) := by
  obtain ⟨e0, e1, e2, e3, e4, e5⟩ := idx_facts t
  blk_ext [iblk, V, e4]

/-- The result array after the run: every element is `cell` of its position and its column. -/
theorem array_apply (c : Dev nD) :
    (dats m 0 c).arrAt 5 cfg0.N = fun i : S16384x128.Idx => cell (m ((c : Thread nD τ).loc main_arg0) (ix1 (i 0))) (freqWord (i 1))
      (phaseWord (i 1)) (m ((c : Thread nD τ).loc main_arg1) (ix2 0 (i 1))) (m ((c : Thread nD τ).loc main_arg2) (ix2 0 (i 1))) := by
  refine (dats m 0 c).arrAt_eq_of_covers 5 _ (by decide +kernel) fun t hf y => ?_
  blk_simp
  rw [after0_5]
  obtain ⟨e0, e1, e2, e3, e4, e5⟩ := idx_facts t
  have hy0 : (y 0 : Nat) < 4096 := (y 0).isLt
  have hy1 : (y 1 : Nat) < 128 := (y 1).isLt
  have h0 : (((win0_5.blk t).view.emb y 0 : Fin 16384) : Nat) = 4096 * t.val + (y 0).val := by
    blk_simp [e5]
    omega
  have h1 : ((win0_5.blk t).view.emb y 1 : Fin 128) = ⟨(y 1).val, hy1⟩ := by
    apply Fin.ext
    blk_simp [e5]
  rw [block_apply _ _ _ _ _ _ ⟨(y 0).val / 128, by omega⟩ ⟨(y 0).val % 128, by omega⟩ ⟨(y 1).val, by omega⟩ (by simp; omega) (by simp)]
  rw [blk_positions m c t _ _ ((win0_5.blk t).view.emb y 0) (by rw [h0]; simp; omega), blk_freq, blk_phase, blk_weights, blk_bias, h1]
  rfl

end Cert.Posemb

end
-- ==== Proof.Taylor.lean ====
module

public import Mathlib.Analysis.Complex.Exponential
public import Mathlib.Analysis.Complex.Trigonometric

/-! # The sine and its Taylor polynomials -/

@[expose] public section

noncomputable section

namespace Cert.Posemb

/-- The Taylor polynomial of the sine with `n` terms. -/
def sineSum (n : ℕ) (x : ℝ) : ℝ := ∑ k ∈ Finset.range n, (-1) ^ k * x ^ (2 * k + 1) / (2 * k + 1).factorial

/-- The imaginary part of the exponential's Taylor polynomial at `x i` is the sine's. -/
theorem im_expSum (n : ℕ) (x : ℝ) :
    (∑ k ∈ Finset.range (2 * n), ((x : ℂ) * Complex.I) ^ k / (k.factorial : ℂ)).im = sineSum n x := by
  induction n with
  | zero => simp [sineSum]
  | succ n ih =>
    have e : ((x : ℂ) * Complex.I) ^ (2 * n) = (((-1) ^ n * x ^ (2 * n) : ℝ) : ℂ) := by
      rw [mul_pow, pow_mul Complex.I, Complex.I_sq]
      push_cast
      ring
    have e1 : ((x : ℂ) * Complex.I) ^ (2 * n) / ((2 * n).factorial : ℂ)
        = (((-1) ^ n * x ^ (2 * n) / (2 * n).factorial : ℝ) : ℂ) := by
      rw [e]
      push_cast
      ring
    have e2 : ((x : ℂ) * Complex.I) ^ (2 * n + 1) / ((2 * n + 1).factorial : ℂ)
        = (((-1) ^ n * x ^ (2 * n + 1) / (2 * n + 1).factorial : ℝ) : ℂ) * Complex.I := by
      rw [pow_succ, e]
      push_cast
      ring
    rw [show 2 * (n + 1) = 2 * n + 1 + 1 from rfl, Finset.sum_range_succ, Finset.sum_range_succ, Complex.add_im, Complex.add_im,
      ih, e1, e2, Complex.ofReal_im, Complex.im_ofReal_mul, Complex.I_im]
    simp [sineSum, Finset.sum_range_succ]

/-- The error of the Taylor polynomial with `n` terms, for angles up to `n`. -/
theorem sine_taylor (n : ℕ) (x : ℝ) (hx : |x| ≤ n) :
    |Real.sin x - sineSum n x| ≤ |x| ^ (2 * n) / (2 * n).factorial * 2 := by
  have hn : ‖(x : ℂ) * Complex.I‖ = |x| := by simp
  have h := Complex.exp_bound' (x := (x : ℂ) * Complex.I) (n := 2 * n) (by
    rw [hn, div_le_iff₀ (by positivity)]
    push_cast
    linarith)
  rw [hn] at h
  refine le_trans ?_ h
  rw [← im_expSum, ← Complex.exp_ofReal_mul_I_im, ← Complex.sub_im]
  exact Complex.abs_im_le_norm _

end Cert.Posemb

end
-- ==== Proof.Pi.lean ====
module

public import proofs.«01_k».proof.Proof.Taylor
public import Mathlib.Analysis.SpecialFunctions.Trigonometric.Basic

/-! # Twenty decimals of pi

The sine of a sixth of pi is a half, and the sine's Taylor polynomial tells on which side of a half a rational angle is. -/

@[expose] public section

noncomputable section

namespace Cert.Posemb

/-- The factorial of twenty, as a numeral. -/
theorem factorial_20 : (20 : ℕ).factorial = 2432902008176640000 := by decide +kernel

/-- The ten-term Taylor polynomial, written out. -/
theorem sineSum_ten (x : ℝ) : sineSum 10 x = x - x ^ 3 / 6 + x ^ 5 / 120 - x ^ 7 / 5040 + x ^ 9 / 362880 - x ^ 11 / 39916800
    + x ^ 13 / 6227020800 - x ^ 15 / 1307674368000 + x ^ 17 / 355687428096000 - x ^ 19 / 121645100408832000 := by
  simp only [sineSum, Finset.sum_range_succ, Finset.sum_range_zero, Nat.factorial]
  norm_num
  ring

/-- Pi is above its first twenty decimals. -/
theorem pi_lower : 3.14159265358979323846 < Real.pi := by
  by_contra hn
  have h := Real.sin_le_sin_of_le_of_le_pi_div_two (x := Real.pi / 6) (y := 3.14159265358979323846 / 6)
    (by linarith [Real.pi_pos]) (by linarith [Real.two_le_pi]) (by linarith)
  rw [Real.sin_pi_div_six] at h
  have t := (abs_le.mp (sine_taylor 10 (3.14159265358979323846 / 6) (by rw [abs_of_pos (by norm_num)]; norm_num))).2
  rw [sineSum_ten, abs_of_pos (by norm_num), show 2 * 10 = 20 from rfl, factorial_20] at t
  norm_num at t
  linarith

/-- Pi is below its first twenty decimals and one more in the last place. -/
theorem pi_upper : Real.pi < 3.14159265358979323847 := by
  by_contra hn
  have h := Real.sin_le_sin_of_le_of_le_pi_div_two (x := 3.14159265358979323847 / 6) (y := Real.pi / 6)
    (by linarith [Real.two_le_pi]) (by linarith [Real.pi_pos]) (by linarith)
  rw [Real.sin_pi_div_six] at h
  have t := (abs_le.mp (sine_taylor 10 (3.14159265358979323847 / 6) (by rw [abs_of_pos (by norm_num)]; norm_num))).1
  rw [sineSum_ten, abs_of_pos (by norm_num), show 2 * 10 = 20 from rfl, factorial_20] at t
  norm_num at t
  linarith

end Cert.Posemb

end
-- ==== Proof.Table.lean ====
module

public import proofs.«01_k».proof.Proof.Array
public import proofs.«01_k».proof.Proof.Pi
public import Mathlib.Analysis.SpecialFunctions.Pow.Real

/-! # The table of frequency words

The words the kernel holds are the frequencies `100000 ^ (-j / 63)`, counted in turns and rounded to the nearest
multiple of `2 ^ -32`. -/

@[expose] public section

set_option maxRecDepth 16384

noncomputable section

namespace Cert.Posemb

open Cert.KernelIdeal Cert.KernelIdeal.Gen Idealize.ShloMosaic

/-- The frequency of pair `j`, in radians per position. -/
def freq (j : ℕ) : ℝ := Real.exp (j * -(Real.log 100000 / 63))

/-- A frequency is positive. -/
theorem freq_pos (j : ℕ) : 0 < freq j := Real.exp_pos _

/-- The 63rd power of a frequency is a power of ten. -/
theorem freq_pow (j : ℕ) : freq j ^ 63 * (100000 : ℝ) ^ j = 1 := by
  have h : (100000 : ℝ) ^ j = Real.exp (j * Real.log 100000) := by
    rw [mul_comm, Real.exp_mul, Real.exp_log (by norm_num), Real.rpow_natCast]
  rw [h, freq, ← Real.exp_nat_mul, ← Real.exp_add, Real.exp_eq_one_iff]
  push_cast
  ring

/-- Rounding a positive number to the nearest integer, decided from bounds on its 63rd power and on pi. -/
theorem round_of_pow {f a : ℝ} (hf : 0 < f) (ha : 0 < a) (k : ℕ) (hk : 1 ≤ k) (h1 : f ^ 63 * a = 1)
    (lo : ((2 * k - 1 : ℝ) * 3.14159265358979323847) ^ 63 * a ≤ (2 ^ 32) ^ 63)
    (hi : ((2 : ℝ) ^ 32) ^ 63 ≤ ((2 * k + 1 : ℝ) * 3.14159265358979323846) ^ 63 * a) :
    ⌊f / (2 * Real.pi) * 4294967296 + 1 / 2⌋ = (k : ℤ) := by
  have hk' : (1 : ℝ) ≤ k := by exact_mod_cast hk
  have p1 := pi_lower
  have p2 := pi_upper
  have hp := Real.pi_pos
  have e : ((2 : ℝ) ^ 32) ^ 63 = (f * 2 ^ 32) ^ 63 * a := by
    rw [mul_pow, mul_right_comm, h1, one_mul]
  rw [e] at lo hi
  have lo' := le_of_pow_le_pow_left₀ (by norm_num) (by positivity) (le_of_mul_le_mul_right lo ha)
  have hi' := le_of_pow_le_pow_left₀ (by norm_num) (by positivity) (le_of_mul_le_mul_right hi ha)
  have lo2 : (2 * k - 1 : ℝ) * Real.pi ≤ f * 2 ^ 32 :=
    (mul_le_mul_of_nonneg_left p2.le (by linarith)).trans lo'
  have hi2 : f * 2 ^ 32 < (2 * k + 1 : ℝ) * Real.pi :=
    hi'.trans_lt (mul_lt_mul_of_pos_left p1 (by linarith))
  have e2 : f / (2 * Real.pi) * 4294967296 + 1 / 2 = (f * 2 ^ 32 + Real.pi) / (2 * Real.pi) := by
    field_simp
    norm_num
  rw [e2, Int.floor_eq_iff]
  constructor
  · rw [le_div_iff₀ (by positivity)]
    push_cast
    linarith
  · rw [div_lt_iff₀ (by positivity)]
    push_cast
    linarith

/-- The bounds `round_of_pow` asks for, of every word of the table, in integers. -/
theorem table_bounds : ∀ c : Fin 128, 1 ≤ (freqWord c).toNat ∧ (freqWord c).toNat < 2 ^ 31 ∧
    ((2 * (freqWord c).toNat - 1) * 314159265358979323847) ^ 63 * 100000 ^ (c.val % 64) ≤ (2 ^ 32 * 10 ^ 20) ^ 63 ∧
    (2 ^ 32 * 10 ^ 20) ^ 63 ≤ ((2 * (freqWord c).toNat + 1) * 314159265358979323846) ^ 63 * 100000 ^ (c.val % 64) := by
  decide +kernel

/-- A frequency word read as a signed number is not negative. -/
theorem freqWord_toInt (c : Fin 128) : (freqWord c).toInt = (freqWord c).toNat :=
  BitVec.toInt_eq_toNat_of_lt (by have := (table_bounds c).2.1; omega)

/-- Every word of the table is its column's frequency, in units of `2 ^ -32` turns, rounded to the nearest. -/
theorem table (c : Fin 128) :
    ⌊freq (c.val % 64) / (2 * Real.pi) * 4294967296 + 1 / 2⌋ = (freqWord c).toInt := by
  obtain ⟨h1, -, h3, h4⟩ := table_bounds c
  rw [freqWord_toInt]
  generalize (freqWord c).toNat = k at h1 h3 h4
  refine round_of_pow (freq_pos _) (by positivity) k h1 (freq_pow _) ?_ ?_
  · have h : (((2 * k - 1 : ℕ) * 314159265358979323847 : ℕ) : ℝ) ^ 63 * 100000 ^ (c.val % 64) ≤ (2 ^ 32 * 10 ^ 20) ^ 63 := by
      exact_mod_cast h3
    rw [Nat.cast_mul, Nat.cast_sub (by omega)] at h
    push_cast at h
    have e : ((2 * k - 1 : ℝ) * 3.14159265358979323847) = ((2 * k - 1 : ℝ) * 314159265358979323847) / 10 ^ 20 := by
      norm_num; ring
    rw [e, div_pow, div_mul_eq_mul_div, div_le_iff₀ (by positivity), ← mul_pow]
    exact h
  · have h : ((2 : ℝ) ^ 32 * 10 ^ 20) ^ 63 ≤ (((2 * k + 1 : ℕ) * 314159265358979323846 : ℕ) : ℝ) ^ 63 * 100000 ^ (c.val % 64) := by
      exact_mod_cast h4
    push_cast at h
    have e : ((2 * k + 1 : ℝ) * 3.14159265358979323846) = ((2 * k + 1 : ℝ) * 314159265358979323846) / 10 ^ 20 := by
      norm_num; ring
    rw [e, div_pow, div_mul_eq_mul_div, le_div_iff₀ (by positivity), ← mul_pow]
    exact h

end Cert.Posemb

end
-- ==== Proof.SinePoly.lean ====
module

public import Mathlib.Data.Real.Basic

/-! # The polynomial of degree seven that stands for the sine -/

@[expose] public section

noncomputable section

namespace Cert.Posemb

/-- The polynomial that stands for the sine of an angle of `v` turns. -/
def sinePoly (v : ℝ) : ℝ :=
  6583541 / 1048576 * v + -5385895 / 131072 * v ^ 3 + 10211741 / 131072 * v ^ 5 + -14690149 / 262144 * v ^ 7

end Cert.Posemb

end
-- ==== Proof.RefValue.lean ====
module

public import proofs.«01_k».proof.Proof.RefTable
public import proofs.«01_k».proof.Proof.Words
public import proofs.«01_k».proof.Proof.Wrap
public import proofs.«01_k».proof.Proof.Table
public import proofs.«01_k».proof.Proof.SinePoly

/-! # The reference's elements as real numbers

Every stage of the table is a real number; the result's element is the polynomial at the reduced angle, weighted and
shifted. -/

@[expose] public section

set_option maxRecDepth 16384

noncomputable section

namespace Cert.Posemb

open Cert.ReferenceIdeal Cert.ReferenceIdeal.Gen Idealize.ShloMosaic Idealize.ShloMosaic.TcCoe

/-- The 32-bit word of a small number is that number. -/
theorem sitofp_ofNat (n : ℕ) (h : n < 2147483648) : (FloatOps.sitofp .f32 (BitVec.ofNat 32 n) : Ideal .f32) = ((n : ℝ) : EReal) := by
  show (((BitVec.ofNat 32 n).toInt : ℝ) : EReal) = _
  rw [BitVec.toInt_eq_toNat_of_lt (by simp; omega), BitVec.toNat_ofNat, Nat.mod_eq_of_lt (by omega)]
  simp

/-- Division by a real number other than zero is real division. -/
theorem div_real (x : ℝ) {y : ℝ} (h : y ≠ 0) : Ideal.div (x : EReal) (y : EReal) = ((x / y : ℝ) : EReal) := by
  rw [Ideal.div_coe h, ← EReal.coe_mul, mul_one_div]

/-- Each frequency is the real number `freq`. -/
theorem freqVec_apply (j : Fin 64) : freqVec (ix1 j) = ((freq j.val : ℝ) : EReal) := by
  pointwise [freqVec]
  rw [word_100000, word_63, sitofp_ofNat _ (by omega), Ideal.log_coe, if_neg (by norm_num), div_real _ (by norm_num), ← EReal.coe_neg,
    ← EReal.coe_mul, Ideal.exp_coe, freq]

/-- The rounded frequency of pair `j`, in turns per position. -/
def turns (j : ℕ) : ℝ := (⌊freq j / (2 * Real.pi) * 4294967296 + 1 / 2⌋ : ℝ) / 4294967296

/-- Each rounded frequency is the real number `turns`. -/
theorem turnVec_apply (j : Fin 64) : turnVec (ix1 j) = ((turns j.val : ℝ) : EReal) := by
  pointwise [turnVec]
  rw [freqVec_apply, word_2, word_neg1, word_2p32, word_half, Ideal.acos_coe, if_pos (by norm_num), Real.arccos_neg_one, ← EReal.coe_mul,
    div_real _ (by positivity), ← EReal.coe_mul, ← EReal.coe_add, Ideal.liftRound_coe, div_real _ (by norm_num), turns]

/-- Each angle is the position times the rounded frequency. -/
theorem angleArr_apply (p : Fin 100000) (j : Fin 64) : angleArr (ix2 p j) = ((p.val * turns j.val : ℝ) : EReal) := by
  pointwise [angleArr]
  rw [turnVec_apply, sitofp_ofNat _ (by omega), ← EReal.coe_mul]

/-- The same, a quarter of a turn on. -/
theorem quarterArr_apply (p : Fin 100000) (j : Fin 64) : quarterArr (ix2 p j) = ((p.val * turns j.val + 1 / 4 : ℝ) : EReal) := by
  pointwise [quarterArr]
  rw [angleArr_apply, word_quarter, ← EReal.coe_add]

/-- Reducing an array reduces each of its real elements. -/
theorem reduceArr_apply (u : FVec Ideal S100000x64 .f32) (i : S100000x64.Idx) (r : ℝ) (h : u i = (r : EReal)) :
    reduceArr u i = ((reduced r : ℝ) : EReal) := by
  pointwise [reduceArr]
  rw [h, word_half, ← EReal.coe_add, Ideal.liftRound_coe, ← EReal.coe_sub, reduced]

/-- The polynomial of an array is the polynomial of each of its real elements. -/
theorem polyArr_apply (u : FVec Ideal S100000x64 .f32) (i : S100000x64.Idx) (r : ℝ) (h : u i = (r : EReal)) :
    polyArr u i = ((sinePoly r : ℝ) : EReal) := by
  pointwise [polyArr]
  rw [h, word_c0, word_c1, word_c2, word_c3]
  simp only [← EReal.coe_mul, ← EReal.coe_add]
  rw [sinePoly]
  congr 1
  ring

/-- The phase of column `q` in turns: none in the first half, a quarter of a turn in the second. -/
def phase (q : ℕ) : ℝ := if q < 64 then 0 else 1 / 4

/-- The angle in turns that the table's column `q` holds at position `p`. -/
def angle (p q : ℕ) : ℝ := p * turns (q % 64) + phase q

/-- The element of the table at position `p` and column `q`. -/
theorem table_apply (w b : FVec Ideal S1x128 .f32) (p : Fin 100000) (q : Fin 128) :
    tableArr (polyArr (reduceArr angleArr)) (polyArr (reduceArr quarterArr)) w b (ix2 p q)
      = ((sinePoly (reduced (angle p q)) : ℝ) : EReal) * w (ix2 0 q) + b (ix2 0 q) := by
  have hq := q.isLt
  pointwise [tableArr]
  congr 2
  split
  · rename_i h
    rw [polyArr_apply _ _ _ (reduceArr_apply _ _ _ (angleArr_apply _ _)), angle, phase, if_pos h, add_zero, Nat.mod_eq_of_lt h]
  · rename_i h
    rw [polyArr_apply _ _ _ (reduceArr_apply _ _ _ (quarterArr_apply _ _)), angle, phase, if_neg h,
      show q.val % 64 = q.val - 64 by omega]

/-- The reference's element at row `n` and column `q`. -/
theorem reference_apply (m : (ℓ : Loc nD τ sig) → Buf (Elt Ideal) ℓ) (c : Dev nD) (n : Fin 16384) (q : Fin 128)
    (h : (m ((c : Thread nD τ).loc main_arg0) (ix1 n : S16384.Idx) : BitVec 32).toNat < 100000) :
    Value.res_main_v81 m c (ix2 n q : S16384x128.Idx)
      = ((sinePoly (reduced (angle (m ((c : Thread nD τ).loc main_arg0) (ix1 n : S16384.Idx) : BitVec 32).toNat q)) : ℝ) : EReal)
        * m ((c : Thread nD τ).loc main_arg1) (ix2 0 q : S1x128.Idx) + m ((c : Thread nD τ).loc main_arg2) (ix2 0 q : S1x128.Idx) := by
  rw [reference_eq]
  exact (takeRows_apply _ _ n q h).trans (table_apply _ _ _ q)

/-- The kernel's angle is the reference's, reduced. -/
theorem turnsOf_eq (x : BitVec 32) (q : Fin 128) (h : x.toNat < 100000) :
    turnsOf x (freqWord q) (phaseWord q) = ((reduced (angle x.toNat q) : ℝ) : EReal) := by
  rw [turnsOf, word_inv32, ← EReal.coe_mul, mul_one_div, word_reduced, angle, turns, table]
  congr 2
  rw [BitVec.toInt_eq_toNat_of_lt (x := x) (by omega)]
  congr 1
  rw [phaseWord, phase]
  split
  · simp
  · rw [show (1073741824#32).toInt = 1073741824 from rfl]
    norm_num

/-- The kernel's weighted polynomial at a real angle and a real weight is the polynomial times the weight. -/
theorem weighted_eq (w v : ℝ) : weighted (w : EReal) (v : EReal) = ((sinePoly v : ℝ) : EReal) * (w : EReal) := by
  rw [weighted, word_c0, word_c1, word_c2, word_c3]
  simp only [← EReal.coe_mul, ← EReal.coe_add]
  rw [sinePoly]
  congr 1
  ring

/-- One element of the kernel, of a position in the table and a finite weight. -/
theorem cell_eq (x : BitVec 32) (q : Fin 128) (w b : EReal) (h : x.toNat < 100000) (h1 : w ≠ ⊤) (h2 : w ≠ ⊥) :
    cell x (freqWord q) (phaseWord q) w b = ((sinePoly (reduced (angle x.toNat q)) : ℝ) : EReal) * w + b := by
  lift w to ℝ using ⟨h1, h2⟩
  rw [cell, turnsOf_eq x q h, weighted_eq]

end Cert.Posemb

end
-- ==== Proof.Pre.lean ====
module

public import proofs.«01_k».proof.Proof.Gen.Pre_in_table
public import proofs.«01_k».proof.Proof.Words
public import Idealize.ShloMosaic.Lib.Pointwise

/-! # What the precondition says -/

@[expose] public section

noncomputable section

namespace Cert.Posemb

open Cert.Pre_in_table Cert.Pre_in_table.Gen Idealize.ShloMosaic

/-- The first half of the precondition: every position is a row of the table. -/
theorem position_lt (x : IVec S16384 32) (w b : FVec Ideal S1x128 .f32) (h : (fn (F := Ideal) x w b).1 = fun _ => 1#1) (n : Fin 16384) :
    (x (ix1 n)).toNat < 100000 := by
  have h1 := congrFun h (ix1 n)
  pointwise [fn] at h1
  generalize x (ix1 n) = a at h1
  simp only [IntOp.cmpi, IntOp.andi] at h1
  have h2 : BitVec.ofBool ((0#32).sle a) = 1#1 ∧ BitVec.ofBool (a.slt 100000#32) = 1#1 := by
    revert h1
    cases (0#32).sle a <;> cases a.slt 100000#32 <;> decide
  obtain ⟨h3, h4⟩ := h2
  have h5 : (0 : ℤ) ≤ a.toInt := by
    by_contra hn
    have e : (0#32).sle a = false := decide_eq_false hn
    rw [e] at h3
    exact absurd h3 (by decide)
  have h6 : a.toInt < 100000 := by
    by_contra hn
    have e : a.slt 100000#32 = false := decide_eq_false hn
    rw [e] at h4
    exact absurd h4 (by decide)
  have ha := a.isLt
  rw [BitVec.toInt_eq_toNat_cond] at h5 h6
  omega

/-- The second half: every weight is finite. -/
theorem weight_finite (x : IVec S16384 32) (w b : FVec Ideal S1x128 .f32) (h : (fn (F := Ideal) x w b).2 = fun _ => 1#1) (q : Fin 128) :
    w (ix2 0 q) ≠ ⊤ ∧ w (ix2 0 q) ≠ ⊥ := by
  have h1 := congrFun h (ix2 0 q)
  pointwise [fn] at h1
  rw [word_inf] at h1
  have h2 : max (w (ix2 0 q)) (-(w (ix2 0 q))) < ⊤ := by
    by_contra hn
    have e : decide ((FloatOps.absf (w (ix2 0 q)) : EReal) < ⊤) = false := decide_eq_false hn
    rw [e] at h1
    exact absurd h1 (by decide)
  rw [max_lt_iff] at h2
  refine ⟨h2.1.ne, fun hb => ?_⟩
  rw [hb] at h2
  exact absurd h2.2 (by simp)

end Cert.Posemb

end
-- ==== Proof.Equation.lean ====
module

public import proofs.«01_k».proof.Defs
public import proofs.«01_k».proof.Proof.RefValue
public import proofs.«01_k».proof.Proof.Pre
public import proofs.«01_k».proof.Proof.Gen.KernelIdeal.Value

/-! # The kernel's result is the reference's -/

@[expose] public section

set_option maxRecDepth 16384

noncomputable section

namespace Cert.Posemb

open Idealize.ShloMosaic Idealize.ShloMosaic.TcCoe Idealize.SL.Sem

/-- The result both programs reach: the polynomial at the reduced angle, weighted and shifted. -/
def result (x : IVec ⟨1, ![16384]⟩ 32) (w b : FVec Ideal ⟨2, ![1, 128]⟩ .f32) : FVec Ideal ⟨2, ![16384, 128]⟩ .f32 :=
  fun i => ((sinePoly (reduced (angle (x (ix1 (i 0))).toNat (i 1))) : ℝ) : EReal) * w (ix2 0 (i 1)) + b (ix2 0 (i 1))

/-- The kernel's array, under the precondition. -/
theorem kernel_result (m : (ℓ : Loc Cert.KernelIdeal.nD Cert.KernelIdeal.τ Cert.KernelIdeal.sig) → Buf (Elt Ideal) ℓ)
    (hpre : Cert.Pre_KernelIdeal_in_table (hPre_in_table := Cert.Pre_in_table.Gen.facts) m) (c : Dev Cert.KernelIdeal.nD) :
    (Cert.KernelIdeal.Gen.dats m 0 c).arrAt 5 Cert.KernelIdeal.cfg0.N
      = result (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2)) := by
  rw [array_apply]
  funext i
  have hw := weight_finite _ _ _ (hpre c).2 (i 1)
  exact cell_eq _ _ _ _ (position_lt _ _ _ (hpre c).1 (i 0)) hw.1 hw.2

/-- The reference's array, of positions in the table. -/
theorem reference_result (m : (ℓ : Loc Cert.ReferenceIdeal.nD Cert.ReferenceIdeal.τ Cert.ReferenceIdeal.sig) → Buf (Elt Ideal) ℓ)
    (c : Dev Cert.ReferenceIdeal.nD)
    (h : ∀ n : Fin 16384, (m ((c : Thread Cert.ReferenceIdeal.nD Cert.ReferenceIdeal.τ).loc Cert.ReferenceIdeal.main_arg0)
      (ix1 n : Cert.ReferenceIdeal.S16384.Idx) : BitVec 32).toNat < 100000) :
    Cert.ReferenceIdeal.Value.res_main_v81 m c
      = result (m ((c : Thread Cert.ReferenceIdeal.nD Cert.ReferenceIdeal.τ).loc Cert.ReferenceIdeal.main_arg0))
          (m ((c : Thread Cert.ReferenceIdeal.nD Cert.ReferenceIdeal.τ).loc Cert.ReferenceIdeal.main_arg1))
          (m ((c : Thread Cert.ReferenceIdeal.nD Cert.ReferenceIdeal.τ).loc Cert.ReferenceIdeal.main_arg2)) := by
  funext i
  idx_vars i
  exact reference_apply m c _ _ (h _)

/-- Both idealized programs run and end with the same result. -/
theorem equation : Cert.algebraic_KernelIdeal_ReferenceIdeal_pre_in_table (hKernelIdeal := Cert.KernelIdeal.Gen.facts)
    (hReferenceIdeal := Cert.ReferenceIdeal.Gen.facts) (hPre_in_table := Cert.Pre_in_table.Gen.facts) := by
  intro m g m' g' hpre hagree
  refine ⟨_, Cert.KernelIdeal.Value.run_blocks m g, ?_⟩
  refine (θ_run Cert.ReferenceIdeal.defs _ _).mono (fun _ h c => ⟨(h c).1.trans ?_, (h c).2⟩) (Cert.ReferenceIdeal.Value.run (F := Ideal) m' g')
  obtain ⟨a0, a1, a2⟩ := hagree c
  rw [kernel_result m hpre c, ← a0, ← a1, ← a2]
  refine reference_result m' c fun n => ?_
  rw [a0]
  exact position_lt _ _ _ (hpre c).1 n

end Cert.Posemb

end
-- ==== Proof.PolyBound.lean ====
module

public import Mathlib.Data.Real.Basic
public import Mathlib.Tactic.Linarith
public import Mathlib.Tactic.Ring

/-! # Bounding a polynomial on an interval

A polynomial is the list of its rational coefficients, the constant one first. Shifted to the left end of a short
interval, it is bounded by replacing each factor by the interval's length or by zero, whichever is the worse. -/

@[expose] public section

namespace Cert.Posemb

/-- The polynomial's value. -/
noncomputable def evalP : List ℚ → ℝ → ℝ
  | [], _ => 0
  | a :: l, x => a + x * evalP l x

/-- The coefficients of `a + (x + c) * l`. -/
def mulAdd (c : ℚ) : ℚ → List ℚ → List ℚ
  | a, [] => [a]
  | a, b :: t => (a + c * b) :: mulAdd c b t

/-- The coefficients of the polynomial at `x + c`. -/
def shiftP (c : ℚ) : List ℚ → List ℚ
  | [] => []
  | a :: l => mulAdd c a (shiftP c l)

/-- An upper bound of the polynomial between `0` and `h`. -/
def upperP (h : ℚ) : List ℚ → ℚ
  | [] => 0
  | a :: l => if 0 ≤ upperP h l then a + h * upperP h l else a

/-- `mulAdd` has the value its name says. -/
theorem evalP_mulAdd (c : ℚ) (l : List ℚ) (a : ℚ) (x : ℝ) : evalP (mulAdd c a l) x = a + (x + c) * evalP l x := by
  induction l generalizing a with
  | nil => simp [mulAdd, evalP]
  | cons b t ih =>
    simp only [mulAdd, evalP, ih]
    push_cast
    ring

/-- `shiftP` has the value of the polynomial at the shifted point. -/
theorem evalP_shiftP (c : ℚ) (l : List ℚ) (x : ℝ) : evalP (shiftP c l) x = evalP l (x + c) := by
  induction l with
  | nil => rfl
  | cons a l ih => rw [shiftP, evalP_mulAdd, ih, evalP]

/-- `upperP` is an upper bound between `0` and `h`. -/
theorem evalP_le_upperP (h : ℚ) (l : List ℚ) (x : ℝ) (h0 : 0 ≤ x) (h1 : x ≤ h) : evalP l x ≤ upperP h l := by
  induction l with
  | nil => simp [evalP, upperP]
  | cons a l ih =>
    rw [evalP, upperP]
    split
    · rename_i hu
      have hu' : (0 : ℝ) ≤ upperP h l := by exact_mod_cast hu
      have e1 : x * evalP l x ≤ x * upperP h l := mul_le_mul_of_nonneg_left ih h0
      have e2 : x * upperP h l ≤ h * upperP h l := mul_le_mul_of_nonneg_right h1 hu'
      push_cast
      linarith
    · rename_i hu
      have hu' : (upperP h l : ℝ) ≤ 0 := by exact_mod_cast (not_le.mp hu).le
      have e1 : x * evalP l x ≤ 0 := mul_nonpos_of_nonneg_of_nonpos h0 (ih.trans hu')
      linarith

/-- The bound at a point of the interval of length `h` starting at `c`. -/
theorem evalP_le (c h : ℚ) (l : List ℚ) (x : ℝ) (h0 : c ≤ x) (h1 : x ≤ c + h) : evalP l x ≤ upperP h (shiftP c l) := by
  have e := evalP_le_upperP h (shiftP c l) (x - c) (by linarith) (by linarith)
  rwa [evalP_shiftP, sub_add_cancel] at e

end Cert.Posemb

end
-- ==== Proof.Gap.lean ====
module

public import proofs.«01_k».proof.Proof.PolyBound
public import Mathlib.Tactic.NormNum

/-! # The polynomial less the sine's Taylor polynomial, bounded

Half a turn is cut into 128 intervals; on each the bound of `PolyBound` is a number. -/

@[expose] public section

set_option maxRecDepth 16384

namespace Cert.Posemb

/-- The coefficients of the polynomial less the nine-term Taylor polynomial of the sine, pi taken as `355 / 113`. -/
def gap : List ℚ :=
  [0, 6583541 / 1048576 - (710 / 113), 0, -5385895 / 131072 + (710 / 113) ^ 3 / 6, 0,
   10211741 / 131072 - (710 / 113) ^ 5 / 120, 0, -14690149 / 262144 + (710 / 113) ^ 7 / 5040, 0,
   -((710 / 113) ^ 9 / 362880), 0, (710 / 113) ^ 11 / 39916800, 0, -((710 / 113) ^ 13 / 6227020800), 0,
   (710 / 113) ^ 15 / 1307674368000, 0, -((710 / 113) ^ 17 / 355687428096000)]

/-- The gap's bound on each of 128 intervals that make up half a turn. -/
theorem gap_pieces : ∀ i : Fin 128, upperP (1 / 256) (shiftP (i.val / 256) gap) ≤ 2594 / 10000000
    ∧ upperP (1 / 256) (shiftP (i.val / 256) (gap.map (fun a => -a))) ≤ 2594 / 10000000 := by
  decide +kernel

end Cert.Posemb

end
-- ==== Proof.Lipschitz.lean ====
module

public import proofs.«01_k».proof.Proof.Pi

/-! # Angles that differ little have sines that differ little -/

@[expose] public section

noncomputable section

namespace Cert.Posemb

/-- The sine of a positive angle up to one is between minus and plus the angle. -/
theorem abs_sin_le_of_le_one (x : ℝ) (h0 : 0 ≤ x) (h1 : x ≤ 1) : |Real.sin x| ≤ x := by
  have t := sine_taylor 2 x (by rw [abs_of_nonneg h0]; push_cast; linarith)
  have e : sineSum 2 x = x - x ^ 3 / 6 := by
    simp only [sineSum, Finset.sum_range_succ, Finset.sum_range_zero, Nat.factorial]
    norm_num
    ring
  rw [e, abs_of_nonneg h0, show (2 * 2 : ℕ).factorial = 24 from rfl] at t
  norm_num at t
  have h3 : x ^ 3 ≤ x := by nlinarith [mul_nonneg h0 h0]
  have h4 : x ^ 4 ≤ x ^ 3 := by nlinarith [mul_nonneg (mul_nonneg h0 h0) h0]
  have h5 : 0 ≤ x ^ 3 := by positivity
  rw [abs_le] at t ⊢
  constructor <;> linarith [t.1, t.2]

/-- The sine is no larger than the angle. -/
theorem abs_sin_le (x : ℝ) : |Real.sin x| ≤ |x| := by
  rcases le_total |x| 1 with h | h
  · rcases le_total 0 x with h0 | h0
    · rw [abs_of_nonneg h0] at *
      exact abs_sin_le_of_le_one x h0 h
    · rw [abs_of_nonpos h0] at *
      have e := abs_sin_le_of_le_one (-x) (by linarith) h
      rwa [Real.sin_neg, abs_neg] at e
  · exact (Real.abs_sin_le_one x).trans h

/-- Two sines differ by no more than their angles. -/
theorem abs_sin_sub_le (x y : ℝ) : |Real.sin x - Real.sin y| ≤ |x - y| := by
  have e1 := abs_sin_le ((x - y) / 2)
  have e2 := Real.abs_cos_le_one ((x + y) / 2)
  rw [Real.sin_sub_sin, abs_mul, abs_mul, abs_two]
  rw [abs_div, abs_two] at e1
  nlinarith [abs_nonneg (Real.sin ((x - y) / 2)), abs_nonneg (Real.cos ((x + y) / 2))]

end Cert.Posemb

end
-- ==== Proof.Sine.lean ====
module

public import proofs.«01_k».proof.Proof.Gap
public import proofs.«01_k».proof.Proof.Lipschitz
public import proofs.«01_k».proof.Proof.SinePoly

/-! # The polynomial is near the sine

On half a turn either way the polynomial is within `13 / 50000` of the sine of the angle. -/

@[expose] public section

set_option maxRecDepth 16384

noncomputable section

namespace Cert.Posemb

/-- Negating every coefficient negates the value. -/
theorem evalP_neg (l : List ℚ) (x : ℝ) : evalP (l.map (fun a => -a)) x = -evalP l x := by
  induction l with
  | nil => simp [evalP]
  | cons a l ih =>
    simp only [List.map, evalP, ih]
    push_cast
    ring

/-- The gap's bound on half a turn. -/
theorem gap_bound (v : ℝ) (h0 : 0 ≤ v) (h1 : v ≤ 1 / 2) : |evalP gap v| ≤ 2594 / 10000000 := by
  obtain ⟨i, hi, h2, h3⟩ : ∃ i : ℕ, i < 128 ∧ (i : ℝ) / 256 ≤ v ∧ v ≤ i / 256 + 1 / 256 := by
    by_cases h : v = 1 / 2
    · exact ⟨127, by norm_num, by rw [h]; norm_num, by rw [h]; norm_num⟩
    · have hv : v < 1 / 2 := lt_of_le_of_ne h1 h
      have a1 := Nat.floor_le (a := 256 * v) (by linarith)
      have a2 := Nat.lt_floor_add_one (256 * v)
      refine ⟨⌊256 * v⌋₊, ?_, by linarith, by linarith⟩
      rw [Nat.floor_lt (by linarith)]
      push_cast
      linarith
  obtain ⟨b1, b2⟩ := gap_pieces ⟨i, hi⟩
  have c1 := evalP_le (i / 256) (1 / 256) gap v (by push_cast; linarith) (by push_cast; linarith)
  have c2 := evalP_le (i / 256) (1 / 256) (gap.map (fun a => -a)) v (by push_cast; linarith) (by push_cast; linarith)
  have b1' : ((upperP (1 / 256) (shiftP (i / 256) gap) : ℚ) : ℝ) ≤ ((2594 / 10000000 : ℚ) : ℝ) := by exact_mod_cast b1
  have b2' : ((upperP (1 / 256) (shiftP (i / 256) (gap.map (fun a => -a))) : ℚ) : ℝ) ≤ ((2594 / 10000000 : ℚ) : ℝ) := by exact_mod_cast b2
  push_cast at b1' b2'
  rw [evalP_neg] at c2
  rw [abs_le]
  constructor <;> linarith

/-- The factorial of eighteen, as a numeral. -/
theorem factorial_18 : (18 : ℕ).factorial = 6402373705728000 := by decide +kernel

/-- The gap is the polynomial less the Taylor polynomial. -/
theorem gap_eq (v : ℝ) : evalP gap v = sinePoly v - sineSum 9 (710 / 113 * v) := by
  simp only [sineSum, Finset.sum_range_succ, Finset.sum_range_zero, Nat.factorial, evalP, gap, sinePoly]
  push_cast
  ring

/-- `sine_near` for angles that are not negative. -/
theorem sine_near_nonneg (v : ℝ) (h0 : 0 ≤ v) (h1 : v ≤ 1 / 2) : |sinePoly v - Real.sin (2 * Real.pi * v)| ≤ 13 / 50000 := by
  have g := gap_bound v h0 h1
  rw [gap_eq] at g
  have hx : |710 / 113 * v| ≤ 355 / 113 := by rw [abs_of_nonneg (by positivity)]; linarith
  have t := sine_taylor 9 (710 / 113 * v) (hx.trans (by norm_num))
  have t2 : |710 / 113 * v| ^ (2 * 9) / (2 * 9).factorial * 2 ≤ 3 / 10000000 := by
    have e : |710 / 113 * v| ^ (2 * 9) ≤ (355 / 113) ^ (2 * 9) := pow_le_pow_left₀ (abs_nonneg _) hx _
    rw [show 2 * 9 = 18 from rfl, factorial_18] at *
    norm_num at e ⊢
    linarith
  have l : |Real.sin (710 / 113 * v) - Real.sin (2 * Real.pi * v)| ≤ 3 / 10000000 := by
    refine (abs_sin_sub_le _ _).trans ?_
    have p1 := pi_lower
    have p2 := pi_upper
    rw [← sub_mul, abs_mul, abs_of_nonneg h0]
    have : |710 / 113 - 2 * Real.pi| ≤ 6 / 10000000 := by rw [abs_le]; constructor <;> linarith
    nlinarith [abs_nonneg (710 / 113 - 2 * Real.pi)]
  rw [abs_le] at *
  constructor <;> linarith [g.1, g.2, t.1, t.2, l.1, l.2]

/-- Within half a turn either way the polynomial is near the sine. -/
theorem sine_near (v : ℝ) (h : |v| ≤ 1 / 2) : |sinePoly v - Real.sin (2 * Real.pi * v)| ≤ 13 / 50000 := by
  rcases le_total 0 v with h0 | h0
  · exact sine_near_nonneg v h0 ((le_abs_self v).trans h)
  · have e := sine_near_nonneg (-v) (by linarith) ((neg_le_abs v).trans h)
    have e1 : sinePoly (-v) = -sinePoly v := by simp only [sinePoly]; ring
    have e2 : 2 * Real.pi * -v = -(2 * Real.pi * v) := by ring
    rw [e1, e2, Real.sin_neg, ← neg_sub', abs_neg] at e
    exact e

end Cert.Posemb

end
-- ==== Proof.Near.lean ====
module

public import proofs.«01_k».proof.Proof.Sine
public import proofs.«01_k».proof.Proof.RefValue

/-! # The table is near the sinusoid

The polynomial at a reduced angle is near the sine of the exact angle: the polynomial is near the sine, whole turns do
not matter to the sine, and rounding the frequency moves the angle little. -/

@[expose] public section

noncomputable section

namespace Cert.Posemb

/-- The exact sinusoid: sines in the first 64 columns, cosines in the last 64. -/
def wave (p q : ℕ) : ℝ := if q < 64 then Real.sin (p * freq q) else Real.cos (p * freq (q - 64))

/-- A reduced angle is at most half a turn either way. -/
theorem abs_reduced_le (u : ℝ) : |reduced u| ≤ 1 / 2 := by
  have h1 := Int.floor_le (u + 1 / 2)
  have h2 := Int.lt_floor_add_one (u + 1 / 2)
  rw [reduced, abs_le]
  constructor <;> linarith

/-- Reducing an angle leaves its sine. -/
theorem sin_reduced (u : ℝ) : Real.sin (2 * Real.pi * reduced u) = Real.sin (2 * Real.pi * u) := by
  rw [reduced, show 2 * Real.pi * (u - (⌊u + 1 / 2⌋ : ℝ)) = 2 * Real.pi * u - (⌊u + 1 / 2⌋ : ℝ) * (2 * Real.pi) by ring,
    Real.sin_sub_int_mul_two_pi]

/-- Rounding a frequency moves it by less than pi times `2 ^ -32`. -/
theorem abs_turns_sub_le (j : ℕ) : |2 * Real.pi * turns j - freq j| ≤ Real.pi / 4294967296 := by
  have hp := Real.pi_pos
  have h1 := Int.floor_le (freq j / (2 * Real.pi) * 4294967296 + 1 / 2)
  have h2 := Int.lt_floor_add_one (freq j / (2 * Real.pi) * 4294967296 + 1 / 2)
  have e : 2 * Real.pi * turns j - freq j
      = 2 * Real.pi / 4294967296 * ((⌊freq j / (2 * Real.pi) * 4294967296 + 1 / 2⌋ : ℝ) - freq j / (2 * Real.pi) * 4294967296) := by
    rw [turns]
    field_simp
  rw [e, abs_mul, abs_of_pos (by positivity)]
  have h3 : |(⌊freq j / (2 * Real.pi) * 4294967296 + 1 / 2⌋ : ℝ) - freq j / (2 * Real.pi) * 4294967296| ≤ 1 / 2 := by
    rw [abs_le]
    constructor <;> linarith
  calc _ ≤ 2 * Real.pi / 4294967296 * (1 / 2) := mul_le_mul_of_nonneg_left h3 (by positivity)
    _ = _ := by ring

/-- At every position of the table the rounded angle is near the exact one. -/
theorem abs_angle_sub_le (p j : ℕ) (hp : p < 100000) : |2 * Real.pi * (p * turns j) - p * freq j| ≤ 7315 / 100000000 := by
  have h := abs_turns_sub_le j
  have hp' : (p : ℝ) ≤ 99999 := by exact_mod_cast Nat.le_of_lt_succ hp
  have hp0 : (0 : ℝ) ≤ p := Nat.cast_nonneg p
  have pi := pi_upper
  rw [show 2 * Real.pi * (p * turns j) - p * freq j = p * (2 * Real.pi * turns j - freq j) by ring, abs_mul, abs_of_nonneg hp0]
  calc _ ≤ 99999 * (Real.pi / 4294967296) := mul_le_mul hp' h (abs_nonneg _) (by norm_num)
    _ ≤ _ := by linarith

/-- The sine of the table's angle is near the exact sinusoid. -/
theorem sin_angle_near (p q : ℕ) (hp : p < 100000) (hq : q < 128) : |Real.sin (2 * Real.pi * angle p q) - wave p q| ≤ 7315 / 100000000 := by
  rw [angle, phase, wave]
  split
  · rename_i h
    rw [Nat.mod_eq_of_lt h, add_zero]
    exact (abs_sin_sub_le _ _).trans (abs_angle_sub_le p q hp)
  · rename_i h
    rw [show q % 64 = q - 64 by omega, ← Real.sin_add_pi_div_two]
    refine (abs_sin_sub_le _ _).trans ?_
    rw [show 2 * Real.pi * (p * turns (q - 64) + 1 / 4) - (p * freq (q - 64) + Real.pi / 2)
      = 2 * Real.pi * (p * turns (q - 64)) - p * freq (q - 64) by ring]
    exact abs_angle_sub_le p _ hp

/-- The table's polynomial is within a three-thousandth of the exact sinusoid. -/
theorem poly_near (p q : ℕ) (hp : p < 100000) (hq : q < 128) : |sinePoly (reduced (angle p q)) - wave p q| ≤ 1 / 3000 := by
  have h1 := sine_near _ (abs_reduced_le (angle p q))
  have h2 := sin_angle_near p q hp hq
  rw [sin_reduced] at h1
  rw [abs_le] at *
  constructor <;> linarith [h1.1, h1.2, h2.1, h2.2]

end Cert.Posemb

end
-- ==== Proof.Post.lean ====
module

public import proofs.«01_k».proof.Proof.Gen.Post_near_the_sinusoid
public import proofs.«01_k».proof.Proof.Near

/-! # What the postcondition says

The postcondition computes the exact sinusoid and asks that the result be within a three-thousandth of the weight of it. -/

@[expose] public section

set_option maxRecDepth 16384

noncomputable section

namespace Cert.Posemb

open Cert.Post_near_the_sinusoid Cert.Post_near_the_sinusoid.Gen Idealize.ShloMosaic

/-- The exact angle of every position and frequency, in radians. -/
def exactAngle : FVec Ideal S100000x64 .f32 :=
  mulf (broadcastInDim S100000x64 ![0, 1] bcast_S100000x1_S100000x64_0_1 (broadcastInDim S100000x1 ![0] bcast_S100000_S100000x1_0 (sitofp .f32
    (iotaInDim S100000 32 0)))) (broadcastInDim S100000x64 ![0, 1] bcast_S1x64_S100000x64_0_1 (broadcastInDim S1x64 ![1] bcast_S64_S1x64_1 freqVec))

/-- The postcondition is its last part, of the rows of the exact table. -/
theorem post_eq (x : IVec S16384 32) (w b : FVec Ideal S1x128 .f32) (out : FVec Ideal S16384x128 .f32) :
    fn (F := Ideal) x w b out = fn_part1 (F := Ideal) w out (takeRows (tableArr (Host.sin exactAngle) (Host.cos exactAngle) w b) x) := rfl

/-- The exact angle's element. -/
theorem exactAngle_apply (p : Fin 100000) (j : Fin 64) : exactAngle (ix2 p j) = ((p.val * freq j.val : ℝ) : EReal) := by
  pointwise [exactAngle]
  rw [freqVec_apply, sitofp_ofNat _ (by omega), ← EReal.coe_mul]

/-- The exact table's element. -/
theorem exactTable_apply (w b : FVec Ideal S1x128 .f32) (p : Fin 100000) (q : Fin 128) :
    tableArr (Host.sin exactAngle) (Host.cos exactAngle) w b (ix2 p q) = ((wave p q : ℝ) : EReal) * w (ix2 0 q) + b (ix2 0 q) := by
  pointwise [tableArr]
  congr 2
  rw [wave]
  split
  · pointwise
    rw [exactAngle_apply, Ideal.sin_coe]
  · pointwise
    rw [exactAngle_apply, Ideal.cos_coe]

/-- Two weighted numbers that differ little, shifted alike, differ by little of the weight. -/
theorem near_weighted (u v w : ℝ) (b : EReal) (h : |u - v| ≤ 1 / 3000) :
    (u : EReal) * (w : EReal) + b ≤ (v : EReal) * (w : EReal) + b + ((|w| / 3000 : ℝ) : EReal) := by
  rw [add_right_comm]
  refine add_le_add ?_ le_rfl
  rw [← EReal.coe_mul, ← EReal.coe_mul, ← EReal.coe_add, EReal.coe_le_coe_iff]
  have e : (u - v) * w ≤ |w| / 3000 := by
    calc (u - v) * w ≤ |(u - v) * w| := le_abs_self _
      _ = |u - v| * |w| := abs_mul _ _
      _ ≤ 1 / 3000 * |w| := mul_le_mul_of_nonneg_right h (abs_nonneg _)
      _ = _ := by ring
  linarith

/-- The postcondition's comparison at one element. -/
theorem part_apply (w : FVec Ideal S1x128 .f32) (out e : FVec Ideal S16384x128 .f32) (n : Fin 16384) (q : Fin 128) (u v w' : ℝ) (b : EReal)
    (hw : w (ix2 0 q) = (w' : EReal)) (ho : out (ix2 n q) = (u : EReal) * (w' : EReal) + b)
    (he : e (ix2 n q) = (v : EReal) * (w' : EReal) + b) (h : |u - v| ≤ 1 / 3000) :
    fn_part1 (F := Ideal) w out e (ix2 n q) = 1#1 := by
  pointwise [fn_part1]
  have ha : (FloatOps.absf (w (ix2 0 q)) : EReal) = ((|w'| : ℝ) : EReal) := by
    rw [hw]
    show max (w' : EReal) (-(w' : EReal)) = _
    rw [← EReal.coe_neg, abs_eq_max_neg]
    exact (EReal.coe_strictMono.monotone.map_max).symm
  have ht : Ideal.div (FloatOps.absf (w (ix2 0 q))) (Ideal.ofBits .f32 0x453B8000#32) = ((|w'| / 3000 : ℝ) : EReal) := by
    rw [word_3000, ha, div_real _ (by norm_num)]
  rw [ht, ho, he, decide_eq_true (near_weighted u v w' b h), decide_eq_true (near_weighted v u w' b (by rwa [abs_sub_comm]))]
  rfl

/-- A result that is the weighted polynomial, shifted, meets the postcondition. -/
theorem post_holds (x : IVec S16384 32) (w b : FVec Ideal S1x128 .f32) (hx : ∀ n : Fin 16384, (x (ix1 n)).toNat < 100000)
    (hw : ∀ q : Fin 128, w (ix2 0 q) ≠ ⊤ ∧ w (ix2 0 q) ≠ ⊥) (out : FVec Ideal S16384x128 .f32)
    (ho : ∀ (n : Fin 16384) (q : Fin 128), out (ix2 n q)
      = ((sinePoly (reduced (angle (x (ix1 n)).toNat q)) : ℝ) : EReal) * w (ix2 0 q) + b (ix2 0 q)) :
    fn (F := Ideal) x w b out = fun _ => 1#1 := by
  rw [post_eq]
  funext i
  obtain ⟨n, q, rfl⟩ : ∃ (n : Fin 16384) (q : Fin 128), i = ix2 n q := ⟨i 0, i 1, eq_ix2 i⟩
  obtain ⟨r, hr⟩ : ∃ r : ℝ, w (ix2 0 q) = (r : EReal) := ⟨_, (EReal.coe_toReal (hw q).1 (hw q).2).symm⟩
  refine part_apply w out _ n q _ _ r (b (ix2 0 q)) hr ((ho n q).trans (by rw [hr])) ?_ (poly_near _ q (hx n) q.isLt)
  rw [← hr]
  exact (takeRows_apply _ x n q (hx n)).trans (exactTable_apply w b _ q)

end Cert.Posemb

end
-- ==== Proof.Accuracy.lean ====
module

public import proofs.«01_k».proof.Proof.Equation
public import proofs.«01_k».proof.Proof.Post

/-! # The kernel's result is near the exact sinusoid -/

@[expose] public section

set_option maxRecDepth 16384

noncomputable section

namespace Cert.Posemb

open Idealize.ShloMosaic Idealize.ShloMosaic.TcCoe Idealize.SL.Sem

/-- The kernel runs, leaves its arguments alone, and its result meets the postcondition. -/
theorem accuracy : Cert.holds_KernelIdeal_near_the_sinusoid_pre_in_table (hKernelIdeal := Cert.KernelIdeal.Gen.facts)
    (hPre_in_table := Cert.Pre_in_table.Gen.facts) (hPost_near_the_sinusoid := Cert.Post_near_the_sinusoid.Gen.facts) := by
  intro m g hpre
  refine (θ_run Cert.KernelIdeal.defs _ _).mono (fun _ h c => ⟨(h c).2.1, (h c).2.2.1, (h c).2.2.2, ?_⟩)
    (Cert.KernelIdeal.Value.run_blocks m g)
  rw [(h c).1, kernel_result m hpre c]
  exact post_holds _ _ _ (fun n => position_lt _ _ _ (hpre c).1 n) (fun q => weight_finite _ _ _ (hpre c).2 q) _ fun n q => rfl

end Cert.Posemb

end
-- ==== Proof.lean ====
/-
  The certificate, assembled. `Frames` says that the three programs run and leave their arguments alone; `Equation`
  says that the kernel and the reference end with the same result.
-/
module

public import proofs.«01_k».proof.Defs
public import proofs.«01_k».proof.Proof.Frames
public import proofs.«01_k».proof.Proof.Equation
public import proofs.«01_k».proof.Proof.Accuracy
public import proofs.«01_k».proof.Proof.Gen.Kernel
public import proofs.«01_k».proof.Proof.Gen.KernelIdeal
public import proofs.«01_k».proof.Proof.Gen.ReferenceIdeal
public import proofs.«01_k».proof.Proof.Gen.Pre_in_table
public import proofs.«01_k».proof.Proof.Gen.Post_near_the_sinusoid
public import Idealize.ShloMosaic.Adequacy
public import Idealize.ShloMosaic.Init

@[expose] public section

noncomputable section

namespace Cert.Proof

open Cert.Posemb

/-- Every claim of the certificate. -/
theorem claim : Cert.Claim :=
  ⟨Cert.Kernel.Gen.facts, Cert.KernelIdeal.Gen.facts, Cert.ReferenceIdeal.Gen.facts, Cert.Pre_in_table.Gen.facts,
    Cert.Post_near_the_sinusoid.Gen.facts, frame_kernel, frame_ideal, frame_ideal_pre, frame_reference, frame_reference_pre, trivial,
    equation, accuracy⟩

end Cert.Proof

end
